-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_damped [hPre_positive_damped : Cert.Pre_positive_damped.Facts] (m : (ℓ : Loc Cert.KernelIdeal.nD Cert.KernelIdeal.τ Cert.KernelIdeal.sig) → Buf (Elt Ideal) ℓ) : Prop :=
  ∀ c : Dev Cert.KernelIdeal.nD,
    (Cert.Pre_positive_damped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_positive_damped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_damped [hPre_positive_damped : Cert.Pre_positive_damped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_damped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_positive_damped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_positive_damped [hKernelIdeal : Cert.KernelIdeal.Facts] [hPre_positive_damped : Cert.Pre_positive_damped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_damped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_positive_damped [hReferenceIdeal : Cert.ReferenceIdeal.Facts] [hPre_positive_damped : Cert.Pre_positive_damped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_damped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_positive_damped [hKernelIdeal : Cert.KernelIdeal.Facts] [hReferenceIdeal : Cert.ReferenceIdeal.Facts] [hPre_positive_damped : Cert.Pre_positive_damped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_damped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_positive_damped : Cert.Pre_positive_damped.Facts),
    quiescent_Kernel (hKernel := hKernel)
    ∧ quiescent_KernelIdeal (hKernelIdeal := hKernelIdeal)
    ∧ quiescent_KernelIdeal_pre_positive_damped (hKernelIdeal := hKernelIdeal) (hPre_positive_damped := hPre_positive_damped)
    ∧ quiescent_ReferenceIdeal (hReferenceIdeal := hReferenceIdeal)
    ∧ quiescent_ReferenceIdeal_pre_positive_damped (hReferenceIdeal := hReferenceIdeal) (hPre_positive_damped := hPre_positive_damped)
    ∧ preserves_Kernel_KernelIdeal
    ∧ algebraic_KernelIdeal_ReferenceIdeal_pre_positive_damped (hKernelIdeal := hKernelIdeal) (hReferenceIdeal := hReferenceIdeal) (hPre_positive_damped := hPre_positive_damped)
-- ==== Pre_positive_damped.lean ====
abbrev S4x3584x1792 : Shape := ⟨3, ![4, 3584, 1792]⟩
abbrev S4x3584x56 : Shape := ⟨3, ![4, 3584, 56]⟩
abbrev S4x3584 : Shape := ⟨2, ![4, 3584]⟩
abbrev S4x1792x896 : Shape := ⟨3, ![4, 1792, 896]⟩
abbrev S4x1792x28 : Shape := ⟨3, ![4, 1792, 28]⟩
abbrev S4x1792 : Shape := ⟨2, ![4, 1792]⟩
abbrev S_ : Shape := ⟨0, ![]⟩

class Facts : Prop where
  bcast_S_S4x3584 : S_.BroadcastsInDim S4x3584 (![] : Fin 0 → Fin S4x3584.rank)
  bcast_S_S4x1792 : S_.BroadcastsInDim S4x1792 (![] : Fin 0 → Fin S4x1792.rank)

variable [Facts]

def fn {F : FTy → Type} [FloatOps F] (main_arg0 : FVec F S4x3584x1792 .bf16) (main_arg1 : FVec F S4x3584x1792 .f32) (main_arg2 : IVec S4x3584x1792 8) (main_arg3 : FVec F S4x3584x56 .f32) (main_arg4 : FVec F S4x3584 .f32) (main_arg5 : IVec S4x1792x896 8) (main_arg6 : FVec F S4x1792x28 .f32) (main_arg7 : FVec F S4x1792 .f32) : IVec S4x3584 1 × IVec S4x1792 1 :=
  let main_cst : FVec F S_ .f32 := constant S_ .f32 0x38D1B717#32
  let main_v0 : FVec F S4x3584 .f32 := broadcastInDim S4x3584 ![] bcast_S_S4x3584 main_cst
  let main_v1 : FVec F S4x3584 .f32 := addf main_arg4 main_v0
  let main_cst_0 : FVec F S_ .f32 := constant S_ .f32 0x00000000#32
  let main_v2 : FVec F S4x3584 .f32 := broadcastInDim S4x3584 ![] bcast_S_S4x3584 main_cst_0
  let main_v3 : IVec S4x3584 1 := cmpf .ogt main_v1 main_v2
  let main_cst_1 : FVec F S_ .f32 := constant S_ .f32 0x38D1B717#32
  let main_v4 : FVec F S4x1792 .f32 := broadcastInDim S4x1792 ![] bcast_S_S4x1792 main_cst_1
  let main_v5 : FVec F S4x1792 .f32 := addf main_arg7 main_v4
  let main_cst_2 : FVec F S_ .f32 := constant S_ .f32 0x00000000#32
  let main_v6 : FVec F S4x1792 .f32 := broadcastInDim S4x1792 ![] bcast_S_S4x1792 main_cst_2
  let main_v7 : IVec S4x1792 1 := cmpf .ogt main_v5 main_v6
  (main_v3, main_v7)
-- ==== Kernel.lean ====
abbrev S4x3584x1792 : Shape := ⟨3, ![4, 3584, 1792]⟩
abbrev S4x3584x56 : Shape := ⟨3, ![4, 3584, 56]⟩
abbrev S4x3584 : Shape := ⟨2, ![4, 3584]⟩
abbrev S4x1792x896 : Shape := ⟨3, ![4, 1792, 896]⟩
abbrev S4x1792x28 : Shape := ⟨3, ![4, 1792, 28]⟩
abbrev S4x1792 : Shape := ⟨2, ![4, 1792]⟩
abbrev S4x1792x1792 : Shape := ⟨3, ![4, 1792, 1792]⟩
abbrev S1x256x896 : Shape := ⟨3, ![1, 256, 896]⟩
abbrev S1x256x28 : Shape := ⟨3, ![1, 256, 28]⟩
abbrev S1x1792x256 : Shape := ⟨3, ![1, 1792, 256]⟩
abbrev S256x28 : Shape := ⟨2, ![256, 28]⟩
abbrev S28x256 : Shape := ⟨2, ![28, 256]⟩
abbrev S1x256x128 : Shape := ⟨3, ![1, 256, 128]⟩
abbrev S256x128 : Shape := ⟨2, ![256, 128]⟩
abbrev S128x256 : Shape := ⟨2, ![128, 256]⟩
abbrev S64x256 : Shape := ⟨2, ![64, 256]⟩
abbrev S1x256 : Shape := ⟨2, ![1, 256]⟩
abbrev S1x64x256 : Shape := ⟨3, ![1, 64, 256]⟩
abbrev S4x3584x3584 : Shape := ⟨3, ![4, 3584, 3584]⟩
abbrev S1x256x1792 : Shape := ⟨3, ![1, 256, 1792]⟩
abbrev S1x256x56 : Shape := ⟨3, ![1, 256, 56]⟩
abbrev S1x3584x256 : Shape := ⟨3, ![1, 3584, 256]⟩
abbrev S256x56 : Shape := ⟨2, ![256, 56]⟩
abbrev S56x256 : Shape := ⟨2, ![56, 256]⟩
abbrev S1x896x1792 : Shape := ⟨3, ![1, 896, 1792]⟩
abbrev S1x1792x1792 : Shape := ⟨3, ![1, 1792, 1792]⟩
abbrev S896x1792 : Shape := ⟨2, ![896, 1792]⟩
abbrev S1792x1792 : Shape := ⟨2, ![1792, 1792]⟩
abbrev S1x1792x896 : Shape := ⟨3, ![1, 1792, 896]⟩
abbrev S1792x896 : Shape := ⟨2, ![1792, 896]⟩
abbrev S1x1792x3584 : Shape := ⟨3, ![1, 1792, 3584]⟩
abbrev S1x512x3584 : Shape := ⟨3, ![1, 512, 3584]⟩
abbrev S1x1792x512 : Shape := ⟨3, ![1, 1792, 512]⟩
abbrev S1792x3584 : Shape := ⟨2, ![1792, 3584]⟩
abbrev S512x3584 : Shape := ⟨2, ![512, 3584]⟩
abbrev S1792x512 : Shape := ⟨2, ![1792, 512]⟩
abbrev S1x3584x512 : Shape := ⟨3, ![1, 3584, 512]⟩
abbrev S3584x512 : Shape := ⟨2, ![3584, 512]⟩
abbrev S4x3584x1 : Shape := ⟨3, ![4, 3584, 1]⟩
abbrev S4x1792x1 : Shape := ⟨3, ![4, 1792, 1]⟩
abbrev S4x1792x3584 : Shape := ⟨3, ![4, 1792, 3584]⟩
abbrev S4x14x8x1792 : Shape := ⟨4, ![4, 14, 8, 1792]⟩
abbrev S1x256x3584 : Shape := ⟨3, ![1, 256, 3584]⟩
abbrev S1x3584x1792 : Shape := ⟨3, ![1, 3584, 1792]⟩
abbrev S1x256x1 : Shape := ⟨3, ![1, 256, 1]⟩
abbrev S1x1792x1 : Shape := ⟨3, ![1, 1792, 1]⟩
abbrev S1x1x8x1792 : Shape := ⟨4, ![1, 1, 8, 1792]⟩
abbrev S256x1 : Shape := ⟨2, ![256, 1]⟩
abbrev S1792x1 : Shape := ⟨2, ![1792, 1]⟩
abbrev S256x3584 : Shape := ⟨2, ![256, 3584]⟩
abbrev S3584x1792 : Shape := ⟨2, ![3584, 1792]⟩
abbrev S256x1792 : Shape := ⟨2, ![256, 1792]⟩
abbrev S1792x256 : Shape := ⟨2, ![1792, 256]⟩
abbrev S32x8x1792 : Shape := ⟨3, ![32, 8, 1792]⟩
abbrev S8x1792 : Shape := ⟨2, ![8, 1792]⟩
abbrev S4x7x8x1792 : Shape := ⟨4, ![4, 7, 8, 1792]⟩
abbrev S1x512x1792 : Shape := ⟨3, ![1, 512, 1792]⟩
abbrev S512x1792 : Shape := ⟨2, ![512, 1792]⟩
abbrev S64x8x1792 : Shape := ⟨3, ![64, 8, 1792]⟩
abbrev S4x112x1792 : Shape := ⟨3, ![4, 112, 1792]⟩
abbrev S4x56x1792 : Shape := ⟨3, ![4, 56, 1792]⟩
abbrev S1x112x1792 : Shape := ⟨3, ![1, 112, 1792]⟩
abbrev S1x56x1792 : Shape := ⟨3, ![1, 56, 1792]⟩
abbrev S112x1792 : Shape := ⟨2, ![112, 1792]⟩
abbrev S1 : Shape := ⟨1, ![1]⟩
abbrev S1x1x1 : Shape := ⟨3, ![1, 1, 1]⟩
abbrev S56x1792 : Shape := ⟨2, ![56, 1792]⟩

abbrev nBuf : Space → Nat
  | .hbm => 24
  | .vmem => 74
  | .smem => 0
  | _ => 0

abbrev bufTy : (tb : Table) → Fin (tcTables nBuf tb) → BufTy
  | .hbm, ⟨0, _⟩ => ⟨S4x3584x1792, .bf16⟩
  | .hbm, ⟨1, _⟩ => ⟨S4x3584x1792, .f32⟩
  | .hbm, ⟨2, _⟩ => ⟨S4x3584x1792, .i8⟩
  | .hbm, ⟨3, _⟩ => ⟨S4x3584x56, .f32⟩
  | .hbm, ⟨4, _⟩ => ⟨S4x3584, .f32⟩
  | .hbm, ⟨5, _⟩ => ⟨S4x1792x896, .i8⟩
  | .hbm, ⟨6, _⟩ => ⟨S4x1792x28, .f32⟩
  | .hbm, ⟨7, _⟩ => ⟨S4x1792, .f32⟩
  | .hbm, ⟨8, _⟩ => ⟨S4x1792x1792, .bf16⟩
  | .hbm, ⟨9, _⟩ => ⟨S4x3584x3584, .bf16⟩
  | .hbm, ⟨10, _⟩ => ⟨S4x1792x1792, .bf16⟩
  | .hbm, ⟨11, _⟩ => ⟨S4x1792x1792, .bf16⟩
  | .hbm, ⟨12, _⟩ => ⟨S4x3584x3584, .bf16⟩
  | .hbm, ⟨13, _⟩ => ⟨S4x3584x3584, .bf16⟩
  | .hbm, ⟨14, _⟩ => ⟨S4x3584x1, .f32⟩
  | .hbm, ⟨15, _⟩ => ⟨S4x1792x1, .f32⟩
  | .hbm, ⟨16, _⟩ => ⟨S4x1792x3584, .bf16⟩
  | .hbm, ⟨17, _⟩ => ⟨S4x3584x1792, .f32⟩
  | .hbm, ⟨18, _⟩ => ⟨S4x14x8x1792, .f32⟩
  | .hbm, ⟨19, _⟩ => ⟨S4x3584x1792, .f32⟩
  | .hbm, ⟨20, _⟩ => ⟨S4x7x8x1792, .f32⟩
  | .hbm, ⟨21, _⟩ => ⟨S4x112x1792, .f32⟩
  | .hbm, ⟨22, _⟩ => ⟨S4x56x1792, .f32⟩
  | .hbm, ⟨23, _⟩ => ⟨S4x3584x1792, .f32⟩
  | .local _ .vmem, ⟨0, _⟩ => ⟨S1x256x896, .i8⟩
  | .local _ .vmem, ⟨1, _⟩ => ⟨S1x256x896, .i8⟩
  | .local _ .vmem, ⟨2, _⟩ => ⟨S1x256x28, .f32⟩
  | .local _ .vmem, ⟨3, _⟩ => ⟨S1x256x28, .f32⟩
  | .local _ .vmem, ⟨4, _⟩ => ⟨S1x1792x256, .bf16⟩
  | .local _ .vmem, ⟨5, _⟩ => ⟨S1x1792x256, .bf16⟩
  | .local _ .vmem, ⟨6, _⟩ => ⟨S1x256x1792, .i8⟩
  | .local _ .vmem, ⟨7, _⟩ => ⟨S1x256x1792, .i8⟩
  | .local _ .vmem, ⟨8, _⟩ => ⟨S1x256x56, .f32⟩
  | .local _ .vmem, ⟨9, _⟩ => ⟨S1x256x56, .f32⟩
  | .local _ .vmem, ⟨10, _⟩ => ⟨S1x3584x256, .bf16⟩
  | .local _ .vmem, ⟨11, _⟩ => ⟨S1x3584x256, .bf16⟩
  | .local _ .vmem, ⟨12, _⟩ => ⟨S1x896x1792, .bf16⟩
  | .local _ .vmem, ⟨13, _⟩ => ⟨S1x896x1792, .bf16⟩
  | .local _ .vmem, ⟨14, _⟩ => ⟨S1x1792x1792, .bf16⟩
  | .local _ .vmem, ⟨15, _⟩ => ⟨S1x1792x1792, .bf16⟩
  | .local _ .vmem, ⟨16, _⟩ => ⟨S1x896x1792, .bf16⟩
  | .local _ .vmem, ⟨17, _⟩ => ⟨S1x896x1792, .bf16⟩
  | .local _ .vmem, ⟨18, _⟩ => ⟨S1x1792x1792, .bf16⟩
  | .local _ .vmem, ⟨19, _⟩ => ⟨S1x1792x1792, .bf16⟩
  | .local _ .vmem, ⟨20, _⟩ => ⟨S1x1792x896, .bf16⟩
  | .local _ .vmem, ⟨21, _⟩ => ⟨S1x1792x896, .bf16⟩
  | .local _ .vmem, ⟨22, _⟩ => ⟨S1x1792x896, .bf16⟩
  | .local _ .vmem, ⟨23, _⟩ => ⟨S1x1792x896, .bf16⟩
  | .local _ .vmem, ⟨24, _⟩ => ⟨S1x1792x896, .bf16⟩
  | .local _ .vmem, ⟨25, _⟩ => ⟨S1x1792x896, .bf16⟩
  | .local _ .vmem, ⟨26, _⟩ => ⟨S1x1792x3584, .bf16⟩
  | .local _ .vmem, ⟨27, _⟩ => ⟨S1x1792x3584, .bf16⟩
  | .local _ .vmem, ⟨28, _⟩ => ⟨S1x512x3584, .bf16⟩
  | .local _ .vmem, ⟨29, _⟩ => ⟨S1x512x3584, .bf16⟩
  | .local _ .vmem, ⟨30, _⟩ => ⟨S1x1792x512, .bf16⟩
  | .local _ .vmem, ⟨31, _⟩ => ⟨S1x1792x512, .bf16⟩
  | .local _ .vmem, ⟨32, _⟩ => ⟨S1x1792x3584, .bf16⟩
  | .local _ .vmem, ⟨33, _⟩ => ⟨S1x1792x3584, .bf16⟩
  | .local _ .vmem, ⟨34, _⟩ => ⟨S1x3584x512, .bf16⟩
  | .local _ .vmem, ⟨35, _⟩ => ⟨S1x3584x512, .bf16⟩
  | .local _ .vmem, ⟨36, _⟩ => ⟨S1x1792x512, .bf16⟩
  | .local _ .vmem, ⟨37, _⟩ => ⟨S1x1792x512, .bf16⟩
  | .local _ .vmem, ⟨38, _⟩ => ⟨S1x1792x512, .bf16⟩
  | .local _ .vmem, ⟨39, _⟩ => ⟨S1x1792x512, .bf16⟩
  | .local _ .vmem, ⟨40, _⟩ => ⟨S1x256x3584, .bf16⟩
  | .local _ .vmem, ⟨41, _⟩ => ⟨S1x256x3584, .bf16⟩
  | .local _ .vmem, ⟨42, _⟩ => ⟨S1x3584x1792, .bf16⟩
  | .local _ .vmem, ⟨43, _⟩ => ⟨S1x1792x1792, .bf16⟩
  | .local _ .vmem, ⟨44, _⟩ => ⟨S1x256x1, .f32⟩
  | .local _ .vmem, ⟨45, _⟩ => ⟨S1x256x1, .f32⟩
  | .local _ .vmem, ⟨46, _⟩ => ⟨S1x1792x1, .f32⟩
  | .local _ .vmem, ⟨47, _⟩ => ⟨S1x1792x1, .f32⟩
  | .local _ .vmem, ⟨48, _⟩ => ⟨S1x256x1792, .bf16⟩
  | .local _ .vmem, ⟨49, _⟩ => ⟨S1x256x1792, .bf16⟩
  | .local _ .vmem, ⟨50, _⟩ => ⟨S1x256x1792, .f32⟩
  | .local _ .vmem, ⟨51, _⟩ => ⟨S1x256x1792, .f32⟩
  | .local _ .vmem, ⟨52, _⟩ => ⟨S1x1792x256, .bf16⟩
  | .local _ .vmem, ⟨53, _⟩ => ⟨S1x1792x256, .bf16⟩
  | .local _ .vmem, ⟨54, _⟩ => ⟨S1x256x1792, .f32⟩
  | .local _ .vmem, ⟨55, _⟩ => ⟨S1x256x1792, .f32⟩
  | .local _ .vmem, ⟨56, _⟩ => ⟨S1x1x8x1792, .f32⟩
  | .local _ .vmem, ⟨57, _⟩ => ⟨S1x1x8x1792, .f32⟩
  | .local _ .vmem, ⟨58, _⟩ => ⟨S1x3584x512, .bf16⟩
  | .local _ .vmem, ⟨59, _⟩ => ⟨S1x3584x512, .bf16⟩
  | .local _ .vmem, ⟨60, _⟩ => ⟨S1x1792x3584, .bf16⟩
  | .local _ .vmem, ⟨61, _⟩ => ⟨S1x1792x1792, .bf16⟩
  | .local _ .vmem, ⟨62, _⟩ => ⟨S1x512x1792, .f32⟩
  | .local _ .vmem, ⟨63, _⟩ => ⟨S1x512x1792, .f32⟩
  | .local _ .vmem, ⟨64, _⟩ => ⟨S1x1x8x1792, .f32⟩
  | .local _ .vmem, ⟨65, _⟩ => ⟨S1x1x8x1792, .f32⟩
  | .local _ .vmem, ⟨66, _⟩ => ⟨S1x512x1792, .f32⟩
  | .local _ .vmem, ⟨67, _⟩ => ⟨S1x512x1792, .f32⟩
  | .local _ .vmem, ⟨68, _⟩ => ⟨S1x112x1792, .f32⟩
  | .local _ .vmem, ⟨69, _⟩ => ⟨S1x112x1792, .f32⟩
  | .local _ .vmem, ⟨70, _⟩ => ⟨S1x56x1792, .f32⟩
  | .local _ .vmem, ⟨71, _⟩ => ⟨S1x56x1792, .f32⟩
  | .local _ .vmem, ⟨72, _⟩ => ⟨S1x512x1792, .f32⟩
  | .local _ .vmem, ⟨73, _⟩ => ⟨S1x512x1792, .f32⟩
  | _, _ => ⟨S4x3584x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc6_stg4_0 : Ref sig .tc := ⟨.vmem, 46, rfl⟩
abbrev cc6_stg4_1 : Ref sig .tc := ⟨.vmem, 47, rfl⟩
abbrev cc6_stg5_0 : Ref sig .tc := ⟨.vmem, 48, rfl⟩
abbrev cc6_stg5_1 : Ref sig .tc := ⟨.vmem, 49, rfl⟩
abbrev cc6_stg6_0 : Ref sig .tc := ⟨.vmem, 50, rfl⟩
abbrev cc6_stg6_1 : Ref sig .tc := ⟨.vmem, 51, rfl⟩
abbrev cc6_stg7_0 : Ref sig .tc := ⟨.vmem, 52, rfl⟩
abbrev cc6_stg7_1 : Ref sig .tc := ⟨.vmem, 53, rfl⟩
abbrev cc6_stg8_0 : Ref sig .tc := ⟨.vmem, 54, rfl⟩
abbrev cc6_stg8_1 : Ref sig .tc := ⟨.vmem, 55, rfl⟩
abbrev cc6_stg9_0 : Ref sig .tc := ⟨.vmem, 56, rfl⟩
abbrev cc6_stg9_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg3_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc6_sem4_0 : DmaSem sig := 46
abbrev cc6_sem4_1 : DmaSem sig := 47
abbrev cc6_sem5_0 : DmaSem sig := 48
abbrev cc6_sem5_1 : DmaSem sig := 49
abbrev cc6_sem6_0 : DmaSem sig := 50
abbrev cc6_sem6_1 : DmaSem sig := 51
abbrev cc6_sem7_0 : DmaSem sig := 52
abbrev cc6_sem7_1 : DmaSem sig := 53
abbrev cc6_sem8_0 : DmaSem sig := 54
abbrev cc6_sem8_1 : DmaSem sig := 55
abbrev cc6_sem9_0 : DmaSem sig := 56
abbrev cc6_sem9_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem3_1 : DmaSem sig := 63
abbrev cc7_sem4_0 : DmaSem sig := 64
abbrev cc7_sem4_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc8_sem3_0 : DmaSem sig := 72
abbrev cc8_sem3_1 : DmaSem sig := 73

abbrev nD : Nat := 1
abbrev τ : Topo := Topo.v7x

variable {F : FTy → Type} [FloatOps F]

abbrev grid0 : Pipeline.Grid := ⟨2, ![4, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x896 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1792x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 14], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x256x1792 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x56 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x3584x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![4, 2, 1], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x896x1792 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1792x1792 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x896x1792 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev grid3 : Pipeline.Grid := ⟨3, ![4, 1, 2], ![false, false, false]⟩

def cc3_transform_0 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage3_0 : Fin 2 → Memref sig .tc .vmem S1x1792x1792 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x1792x896 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1792x896 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x1792x896 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨3, ![4, 2, 7], ![false, false, false]⟩

def cc4_transform_0 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage4_0 : Fin 2 → Memref sig .tc .vmem S1x1792x3584 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, false]

abbrev stage4_1 : Fin 2 → Memref sig .tc .vmem S1x512x3584 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x1792x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, true]

abbrev grid5 : Pipeline.Grid := ⟨3, ![4, 2, 7], ![false, false, false]⟩

def cc5_transform_0 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage5_0 : Fin 2 → Memref sig .tc .vmem S1x1792x3584 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, false]

abbrev stage5_1 : Fin 2 → Memref sig .tc .vmem S1x3584x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x1792x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, true]

abbrev stage5_3 : Fin 2 → Memref sig .tc .vmem S1x1792x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, true]

abbrev grid6 : Pipeline.Grid := ⟨2, ![4, 14], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_7 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc6_transform_8 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_9 (i : grid6.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage6_0 : Fin 2 → Memref sig .tc .vmem S1x256x3584 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S1x3584x1792 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 1 → Memref sig .tc .vmem S1x1792x1792 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev stage6_3 : Fin 2 → Memref sig .tc .vmem S1x256x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S1x1792x1 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S1x256x1792 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, true]

abbrev stage6_6 : Fin 2 → Memref sig .tc .vmem S1x256x1792 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev stage6_7 : Fin 2 → Memref sig .tc .vmem S1x1792x256 .bf16 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true, true]

abbrev stage6_8 : Fin 2 → Memref sig .tc .vmem S1x256x1792 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true, true]

abbrev stage6_9 : Fin 2 → Memref sig .tc .vmem S1x1x8x1792 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true, true]

abbrev grid7 : Pipeline.Grid := ⟨2, ![4, 7], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_4 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage7_0 : Fin 2 → Memref sig .tc .vmem S1x3584x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 1 → Memref sig .tc .vmem S1x1792x3584 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 1 → Memref sig .tc .vmem S1x1792x1792 .bf16 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, false]

abbrev stage7_3 : Fin 2 → Memref sig .tc .vmem S1x512x1792 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S1x1x8x1792 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]

abbrev grid8 : Pipeline.Grid := ⟨2, ![4, 7], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage8_0 : Fin 2 → Memref sig .tc .vmem S1x512x1792 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S1x112x1792 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false]

abbrev stage8_2 : Fin 2 → Memref sig .tc .vmem S1x56x1792 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, false]

abbrev stage8_3 : Fin 2 → Memref sig .tc .vmem S1x512x1792 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]
-- ==== ReferenceIdeal.lean ====
abbrev S4x3584x1792 : Shape := ⟨3, ![4, 3584, 1792]⟩
abbrev S4x3584x56 : Shape := ⟨3, ![4, 3584, 56]⟩
abbrev S4x3584 : Shape := ⟨2, ![4, 3584]⟩
abbrev S4x1792x896 : Shape := ⟨3, ![4, 1792, 896]⟩
abbrev S4x1792x28 : Shape := ⟨3, ![4, 1792, 28]⟩
abbrev S4x1792 : Shape := ⟨2, ![4, 1792]⟩
abbrev S_ : Shape := ⟨0, ![]⟩
abbrev S4x3584x1x1792 : Shape := ⟨4, ![4, 3584, 1, 1792]⟩
abbrev S4x3584x2x1792 : Shape := ⟨4, ![4, 3584, 2, 1792]⟩
abbrev S4x3584x3584 : Shape := ⟨3, ![4, 3584, 3584]⟩
abbrev S4x3584x56x64 : Shape := ⟨4, ![4, 3584, 56, 64]⟩
abbrev S4x3584x56x1 : Shape := ⟨4, ![4, 3584, 56, 1]⟩
abbrev S3584x3584 : Shape := ⟨2, ![3584, 3584]⟩
abbrev S1x3584x3584 : Shape := ⟨3, ![1, 3584, 3584]⟩
abbrev S4x1792x1x896 : Shape := ⟨4, ![4, 1792, 1, 896]⟩
abbrev S4x1792x2x896 : Shape := ⟨4, ![4, 1792, 2, 896]⟩
abbrev S4x1792x1792 : Shape := ⟨3, ![4, 1792, 1792]⟩
abbrev S4x1792x28x64 : Shape := ⟨4, ![4, 1792, 28, 64]⟩
abbrev S4x1792x28x1 : Shape := ⟨4, ![4, 1792, 28, 1]⟩
abbrev S1792x1792 : Shape := ⟨2, ![1792, 1792]⟩
abbrev S1x1792x1792 : Shape := ⟨3, ![1, 1792, 1792]⟩
abbrev S4x3584x1 : Shape := ⟨3, ![4, 3584, 1]⟩
abbrev S4x1x1792 : Shape := ⟨3, ![4, 1, 1792]⟩
abbrev S4 : Shape := ⟨1, ![4]⟩
abbrev S4x1x1 : Shape := ⟨3, ![4, 1, 1]⟩

abbrev nBuf : Space → Nat
  | .hbm => 148
  | .vmem => 0
  | .smem => 0
  | _ => 0

abbrev hbmTy0_0 (i : Nat) : BufTy := match i % 128 with
  | 0 => ⟨S4x3584x1792, .bf16⟩
  | 1 => ⟨S4x3584x1792, .f32⟩
  | 2 => ⟨S4x3584x1792, .i8⟩
  | 3 => ⟨S4x3584x56, .f32⟩
  | 4 => ⟨S4x3584, .f32⟩
  | 5 => ⟨S4x1792x896, .i8⟩
  | 6 => ⟨S4x1792x28, .f32⟩
  | 7 => ⟨S4x1792, .f32⟩
  | 8 => ⟨S4x3584x1792, .i32⟩
  | 9 => ⟨S_, .i32⟩
  | 10 => ⟨S4x3584x1792, .i32⟩
  | 11 => ⟨S4x3584x1792, .i32⟩
  | 12 => ⟨S_, .i32⟩
  | 13 => ⟨S4x3584x1792, .i32⟩
  | 14 => ⟨S4x3584x1792, .i32⟩
  | 15 => ⟨S4x3584x1x1792, .i32⟩
  | 16 => ⟨S4x3584x1x1792, .i32⟩
  | 17 => ⟨S4x3584x2x1792, .i32⟩
  | 18 => ⟨S_, .i32⟩
  | 19 => ⟨S4x3584x2x1792, .i32⟩
  | 20 => ⟨S4x3584x2x1792, .i1⟩
  | 21 => ⟨S_, .i32⟩
  | 22 => ⟨S4x3584x2x1792, .i32⟩
  | 23 => ⟨S4x3584x2x1792, .i32⟩
  | 24 => ⟨S4x3584x2x1792, .i32⟩
  | 25 => ⟨S4x3584x3584, .i32⟩
  | 26 => ⟨S4x3584x3584, .f32⟩
  | 27 => ⟨S4x3584x3584, .bf16⟩
  | 28 => ⟨S4x3584x56x64, .bf16⟩
  | 29 => ⟨S4x3584x56, .bf16⟩
  | 30 => ⟨S4x3584x56x1, .bf16⟩
  | 31 => ⟨S4x3584x56x64, .bf16⟩
  | 32 => ⟨S4x3584x56x64, .bf16⟩
  | 33 => ⟨S4x3584x3584, .bf16⟩
  | 34 => ⟨S4x3584x3584, .f32⟩
  | 35 => ⟨S3584x3584, .i32⟩
  | 36 => ⟨S3584x3584, .i32⟩
  | 37 => ⟨S_, .i32⟩
  | 38 => ⟨S3584x3584, .i32⟩
  | 39 => ⟨S3584x3584, .i32⟩
  | 40 => ⟨S3584x3584, .i1⟩
  | 41 => ⟨S3584x3584, .f32⟩
  | 42 => ⟨S1x3584x3584, .f32⟩
  | 43 => ⟨S4x3584x3584, .f32⟩
  | 44 => ⟨S4x3584x3584, .f32⟩
  | 45 => ⟨S4x3584x3584, .bf16⟩
  | 46 => ⟨S4x3584x3584, .f32⟩
  | 47 => ⟨S4x3584x3584, .f32⟩
  | 48 => ⟨S_, .f32⟩
  | 49 => ⟨S4x3584x3584, .f32⟩
  | 50 => ⟨S4x3584x3584, .f32⟩
  | 51 => ⟨S4x3584x3584, .f32⟩
  | 52 => ⟨S4x3584x3584, .bf16⟩
  | 53 => ⟨S_, .f32⟩
  | 54 => ⟨S4x3584, .f32⟩
  | 55 => ⟨S4x3584, .f32⟩
  | 56 => ⟨S_, .f32⟩
  | 57 => ⟨S4x3584, .f32⟩
  | 58 => ⟨S4x3584, .f32⟩
  | 59 => ⟨S4x1792x896, .i32⟩
  | 60 => ⟨S_, .i32⟩
  | 61 => ⟨S4x1792x896, .i32⟩
  | 62 => ⟨S4x1792x896, .i32⟩
  | 63 => ⟨S_, .i32⟩
  | 64 => ⟨S4x1792x896, .i32⟩
  | 65 => ⟨S4x1792x896, .i32⟩
  | 66 => ⟨S4x1792x1x896, .i32⟩
  | 67 => ⟨S4x1792x1x896, .i32⟩
  | 68 => ⟨S4x1792x2x896, .i32⟩
  | 69 => ⟨S_, .i32⟩
  | 70 => ⟨S4x1792x2x896, .i32⟩
  | 71 => ⟨S4x1792x2x896, .i1⟩
  | 72 => ⟨S_, .i32⟩
  | 73 => ⟨S4x1792x2x896, .i32⟩
  | 74 => ⟨S4x1792x2x896, .i32⟩
  | 75 => ⟨S4x1792x2x896, .i32⟩
  | 76 => ⟨S4x1792x1792, .i32⟩
  | 77 => ⟨S4x1792x1792, .f32⟩
  | 78 => ⟨S4x1792x1792, .bf16⟩
  | 79 => ⟨S4x1792x28x64, .bf16⟩
  | 80 => ⟨S4x1792x28, .bf16⟩
  | 81 => ⟨S4x1792x28x1, .bf16⟩
  | 82 => ⟨S4x1792x28x64, .bf16⟩
  | 83 => ⟨S4x1792x28x64, .bf16⟩
  | 84 => ⟨S4x1792x1792, .bf16⟩
  | 85 => ⟨S4x1792x1792, .f32⟩
  | 86 => ⟨S1792x1792, .i32⟩
  | 87 => ⟨S1792x1792, .i32⟩
  | 88 => ⟨S_, .i32⟩
  | 89 => ⟨S1792x1792, .i32⟩
  | 90 => ⟨S1792x1792, .i32⟩
  | 91 => ⟨S1792x1792, .i1⟩
  | 92 => ⟨S1792x1792, .f32⟩
  | 93 => ⟨S1x1792x1792, .f32⟩
  | 94 => ⟨S4x1792x1792, .f32⟩
  | 95 => ⟨S4x1792x1792, .f32⟩
  | 96 => ⟨S4x1792x1792, .bf16⟩
  | 97 => ⟨S4x1792x1792, .f32⟩
  | 98 => ⟨S4x1792x1792, .f32⟩
  | 99 => ⟨S_, .f32⟩
  | 100 => ⟨S4x1792x1792, .f32⟩
  | 101 => ⟨S4x1792x1792, .f32⟩
  | 102 => ⟨S4x1792x1792, .f32⟩
  | 103 => ⟨S4x1792x1792, .bf16⟩
  | 104 => ⟨S_, .f32⟩
  | 105 => ⟨S4x1792, .f32⟩
  | 106 => ⟨S4x1792, .f32⟩
  | 107 => ⟨S_, .f32⟩
  | 108 => ⟨S4x1792, .f32⟩
  | 109 => ⟨S4x1792, .f32⟩
  | 110 => ⟨S4x3584x1792, .f32⟩
  | 111 => ⟨S4x3584x1, .f32⟩
  | 112 => ⟨S4x3584x1792, .f32⟩
  | 113 => ⟨S4x3584x1792, .f32⟩
  | 114 => ⟨S4x3584x1792, .bf16⟩
  | 115 => ⟨S4x3584x1792, .f32⟩
  | 116 => ⟨S4x1x1792, .f32⟩
  | 117 => ⟨S4x3584x1792, .f32⟩
  | 118 => ⟨S4x3584x1792, .f32⟩
  | 119 => ⟨S4x3584x1792, .bf16⟩
  | 120 => ⟨S4x3584x1792, .f32⟩
  | 121 => ⟨S4x3584x1792, .bf16⟩
  | 122 => ⟨S4x3584x1792, .f32⟩
  | 123 => ⟨S4x3584x1792, .f32⟩
  | 124 => ⟨S4x3584x1792, .f32⟩
  | 125 => ⟨S_, .f32⟩
  | 126 => ⟨S4x3584x1792, .f32⟩
  | 127 => ⟨S4x3584x1792, .f32⟩
  | _ => ⟨S4x3584x1792, .bf16⟩

abbrev hbmTy0_1 (i : Nat) : BufTy := match i % 128 with
  | 0 => ⟨S4x3584x1792, .f32⟩
  | 1 => ⟨S4x3584x1792, .f32⟩
  | 2 => ⟨S_, .f32⟩
  | 3 => ⟨S4, .f32⟩
  | 4 => ⟨S4, .f32⟩
  | 5 => ⟨S4x3584x1792, .f32⟩
  | 6 => ⟨S_, .f32⟩
  | 7 => ⟨S4, .f32⟩
  | 8 => ⟨S4, .f32⟩
  | 9 => ⟨S_, .f32⟩
  | 10 => ⟨S4, .f32⟩
  | 11 => ⟨S4, .i1⟩
  | 12 => ⟨S_, .f32⟩
  | 13 => ⟨S_, .f32⟩
  | 14 => ⟨S4, .f32⟩
  | 15 => ⟨S4, .f32⟩
  | 16 => ⟨S4, .f32⟩
  | 17 => ⟨S4x1x1, .f32⟩
  | 18 => ⟨S4x3584x1792, .f32⟩
  | 19 => ⟨S4x3584x1792, .f32⟩
  | _ => ⟨S4x3584x1792, .bf16⟩

abbrev hbmTy (i : Nat) : BufTy := match i / 128 with
  | 0 => hbmTy0_0 i
  | 1 => hbmTy0_1 i
  | _ => ⟨S4x3584x1792, .bf16⟩

abbrev bufTy : (tb : Table) → Fin (tcTables nBuf tb) → BufTy
  | .hbm, ⟨i, _⟩ => hbmTy i
  | _, _ => ⟨S4x3584x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_11 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_12 : Ref sig .tc := ⟨.hbm, 104, rfl⟩
abbrev main_v82 : Ref sig .tc := ⟨.hbm, 105, rfl⟩
abbrev main_v83 : Ref sig .tc := ⟨.hbm, 106, rfl⟩
abbrev main_cst_13 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_14 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_15 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_16 : Ref sig .tc := ⟨.hbm, 134, rfl⟩
abbrev main_v108 : Ref sig .tc := ⟨.hbm, 135, rfl⟩
abbrev main_v109 : Ref sig .tc := ⟨.hbm, 136, rfl⟩
abbrev main_cst_17 : Ref sig .tc := ⟨.hbm, 137, rfl⟩
abbrev main_v110 : Ref sig .tc := ⟨.hbm, 138, rfl⟩
abbrev main_v111 : Ref sig .tc := ⟨.hbm, 139, rfl⟩
abbrev main_cst_18 : Ref sig .tc := ⟨.hbm, 140, rfl⟩
abbrev main_call2_v0 : Ref sig .tc := ⟨.hbm, 141, rfl⟩
abbrev main_call2_v1 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩

abbrev nD : Nat := 1
abbrev τ : Topo := Topo.v7x

variable {F : FTy → Type} [FloatOps F]
-- ==== Proof.Run.lean ====
/- The kernel program's run with its two results named: what the last call and the diagonal update's call leave. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with both results at the contents the chain of calls leaves them, the arguments unchanged and every
    semaphore counter at zero. -/
theorem run : θ_run defs (onTc (τ := τ) (main (F := F))) ⟨m, fun _ => 0, ρ⟩ (fun r => (∀ c : Dev nD,
      r.2.mem ((c.tc : Thread nD τ).loc main_v12) = V11 m ρ c main_v12
      ∧ r.2.mem ((c.tc : Thread nD τ).loc main_v8_1) = V11 m ρ c main_v8_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨(fun c =>
      ⟨h c _ (mem_uc main_v12 (by decide)),
       h c _ (mem_uc main_v8_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩), funext fun g => hz g (.inr (no_unscoped g.2))⟩)

end Cert.KernelIdeal.Val
-- ==== Proof.Spec.lean ====
/- The nine calls' results as plain functions of their operands' entries, over the extended reals. -/
module

public import Idealize.ShloMosaic.PureOps
public import Idealize.ShloMosaic.Lib.Pointwise
public import Idealize.ShloMosaic.Lib.Pipeline.ValueKit

@[expose] public section

noncomputable section

namespace Cert.Spec

open Idealize.ShloMosaic

/-- An array of rank three, of extended reals. -/
abbrev A3 (a b c : Nat) : Type := (⟨3, ![a, b, c]⟩ : Shape).Idx → EReal

/-- An array of rank four, of extended reals. -/
abbrev A4 (a b c d : Nat) : Type := (⟨4, ![a, b, c, d]⟩ : Shape).Idx → EReal

/-- The number a four-bit two's complement code stands for. -/
def level (k : Nat) : EReal := ((((if 8 ≤ k then (k : Int) - 16 else k) : Int) : ℝ) : EReal)

/-- The number that the low (`m = 0`) or the high (`m = 1`) half of a code byte stands for. -/
def nib (m : Nat) (x : BitVec 8) : EReal := level (x.toNat / 16 ^ m % 16)

/-- A bounded place's half byte lies in the packed row. -/
theorem mod_lt {n h : Nat} (hh : n = 2 * h) (j : Fin n) : j.val % h < h :=
  Nat.mod_lt _ (by have := j.isLt; omega)

/-- A place's group of sixty-four lies in the row of scales. -/
theorem div_lt {n q : Nat} (hq : n = 64 * q) (j : Fin n) : j.val / 64 < q := by
  have := j.isLt; omega

/-- The decoded matrix at row `i`, column `j`: the code's number times its group's scale. -/
def decAt {n h q : Nat} (hh : n = 2 * h) (hq : n = 64 * q) (codes : (⟨3, ![4, n, h]⟩ : Shape).Idx → BitVec 8)
    (scales : A3 4 n q) (b : Fin 4) (i j : Fin n) : EReal :=
  nib (j.val / h) (codes (ix3 b i ⟨j.val % h, mod_lt hh j⟩)) * scales (ix3 b i ⟨j.val / 64, div_lt hq j⟩)

/-- The decoded matrix, transposed. -/
def decT {n h q : Nat} (hh : n = 2 * h) (hq : n = 64 * q) (codes : (⟨3, ![4, n, h]⟩ : Shape).Idx → BitVec 8)
    (scales : A3 4 n q) : A3 4 n n := fun i => decAt hh hq codes scales (i 0) (i 2) (i 1)

/-- Row `k` of the `r`-th group of eight rows of the `a`-th block lies in the array. -/
theorem group_lt {s t q a r k : Nat} (h : t * q * 8 ≤ s) (ha : a < t) (hr : r < q) (hk : k < 8) :
    a * (q * 8) + (r * 8 + k) < s := by
  have h1 : (a + 1) * (q * 8) ≤ t * (q * 8) := Nat.mul_le_mul_right _ ha
  rw [Nat.add_mul, Nat.one_mul] at h1
  have h2 : t * q * 8 = t * (q * 8) := Nat.mul_assoc _ _ _
  omega

/-- The identity matrix. -/
def eye {n : Nat} (i j : Fin n) : EReal := if i.val = j.val then 1 else 0

/-- The error of the Gram matrix of the rows of `v`: the product of `v` with its transpose, less the identity. -/
def gram {n : Nat} (v : A3 4 n n) : A3 4 n n := fun i =>
  (∑ k : Fin n, v (ix3 (i 0) (i 1) k) * v (ix3 (i 0) (i 2) k)) - eye (i 1) (i 2)

/-- One correction step: `v` less half of `e` times `v`. -/
def correct {n : Nat} (e v : A3 4 n n) : A3 4 n n := fun i =>
  v i - Ideal.ofBits .f32 0x3F000000#32 * ∑ k : Fin n, e (ix3 (i 0) (i 1) k) * v (ix3 (i 0) k (i 2))

/-- The kernel's inverse fourth root of a damped eigenvalue. -/
def root (x : EReal) : EReal := Ideal.rsqrt (Ideal.sqrt (x + Ideal.ofBits .f32 0x38D1B717#32))

/-- The gradient in both eigenbases, scaled on both sides, transposed. -/
def mid {s d : Nat} (w : A3 4 s s) (g : A3 4 s d) (wr : A3 4 d d) (ll : A3 4 s 1) (lr : A3 4 d 1) : A3 4 d s := fun i =>
  (∑ k : Fin d, wr (ix3 (i 0) (i 1) k) * ((∑ j : Fin s, w (ix3 (i 0) (i 2) j) * g (ix3 (i 0) j k)) * root (ll (ix3 (i 0) (i 2) 0))))
    * root (lr (ix3 (i 0) (i 1) 0))

/-- The diagonal update at one place. -/
def adaAt {s d : Nat} (g acc : A3 4 s d) (b : Fin 4) (i : Fin s) (j : Fin d) : EReal :=
  Ideal.div (g (ix3 b i j)) (Ideal.sqrt (acc (ix3 b i j)) + Ideal.ofBits .f32 0x322BCC77#32)

/-- The diagonal update. -/
def ada {s d : Nat} (g acc : A3 4 s d) : A3 4 s d := fun i => adaAt g acc (i 0) (i 1) (i 2)

/-- Partial sums of squares: each block of `8 * q` rows is summed over its `q` groups of eight rows. -/
def squares {s d : Nat} (t q : Nat) (h : t * q * 8 ≤ s) (x : Fin 4 → Fin s → Fin d → EReal) : A4 4 t 8 d := fun i =>
  ∑ r : Fin q,
    x (i 0) ⟨(i 1).val * (q * 8) + (r.val * 8 + (i 2).val), group_lt h (i 1).isLt r.isLt (i 2).isLt⟩ (i 3) *
      x (i 0) ⟨(i 1).val * (q * 8) + (r.val * 8 + (i 2).val), group_lt h (i 1).isLt r.isLt (i 2).isLt⟩ (i 3)

/-- Back from the eigenbases, at one place: the update before grafting. -/
def backAt {s d : Nat} (w : A3 4 s s) (m : A3 4 d s) (wr : A3 4 d d) (b : Fin 4) (i : Fin s) (c : Fin d) : EReal :=
  ∑ e : Fin d, (∑ j : Fin s, m (ix3 b e j) * w (ix3 b j i)) * wr (ix3 b e c)

/-- Back from the eigenbases: the update before grafting. -/
def back {s d : Nat} (w : A3 4 s s) (m : A3 4 d s) (wr : A3 4 d d) : A3 4 s d := fun i => backAt w m wr (i 0) (i 1) (i 2)

/-- The quotient of the two norms, the divisor taken as one where it is not positive. -/
def ratio (a p : EReal) : EReal :=
  Ideal.div (Ideal.sqrt a) (if 0 < Ideal.sqrt p then Ideal.sqrt p else 1)

/-- The update scaled to the diagonal update's norm. -/
def graft {s d na np : Nat} (p : A3 4 s d) (an : A3 4 na d) (pn : A3 4 np d) : A3 4 s d := fun i =>
  p i * ratio (∑ r : Fin na, ∑ k : Fin d, an (ix3 (i 0) r k)) (∑ r : Fin np, ∑ k : Fin d, pn (ix3 (i 0) r k))

end Cert.Spec

end
-- ==== Proof.Lanes.lean ====
/- The decoding of two packed codes a word at a time, read one code at a time. -/
module

public import proofs.«01_k».proof.Proof.Spec
public import proofs.«01_k».proof.Proof.Gen.KernelIdeal.Frame
public import Idealize.ShloMosaic.Lib.BitcastPair

@[expose] public section

set_option maxRecDepth 16384

noncomputable section

namespace Cert.KernelIdeal.Val

open Idealize.ShloMosaic Idealize.ShloMosaic.Tactic
open Cert.KernelIdeal Cert.KernelIdeal.Gen

/-- The sixteen bits that one code byte becomes: the shifted half, its sign bit flipped, under the bits of 128. -/
def lane (s : Nat) (x : BitVec 8) : BitVec 16 := ((x.setWidth 16 >>> s) &&& 15#16 ^^^ 8#16) ||| 0x4300#16

/-- The word computation on two codes keeps their sixteen-bit halves apart. -/
theorem word_half (w : BitVec 32) (a b : BitVec 8)
    (hw : ∀ i, w.getLsbD i = if i < 16 then a.getLsbD i else b.getLsbD (i - 16)) (s : Nat) (hs : s = 0 ∨ s = 4) (r : Nat) (hr : r = 0 ∨ r = 1) :
    (((w.sshiftRight s &&& 983055#32) ^^^ 524296#32) ||| 1124090624#32).extractLsb' (16 * r) 16
      = lane s (if r = 0 then a else b) := by
  apply BitVec.eq_of_getLsbD_eq
  intro i hi
  rcases hs with rfl | rfl <;> rcases hr with rfl | rfl <;> interval_cases i <;>
    simp [lane, BitVec.getLsbD_sshiftRight, BitVec.getElem_sshiftRight, BitVec.getLsbD_setWidth, ← BitVec.getLsbD_eq_getElem, hw]

/-- The word computation on two code bytes, the first below the second. -/
theorem word_pair (a b : BitVec 8) (s : Nat) (hs : s = 0 ∨ s = 4) (r : Nat) (hr : r = 0 ∨ r = 1) :
    ((((b.setWidth 16 ++ a.setWidth 16).sshiftRight s &&& 983055#32) ^^^ 524296#32) ||| 1124090624#32).extractLsb' (16 * r) 16
      = lane s (if r = 0 then a else b) := by
  refine word_half _ a b (fun i => ?_) s hs r hr
  rw [BitVec.getLsbD_append, BitVec.getLsbD_setWidth, BitVec.getLsbD_setWidth]
  by_cases hi : i < 16
  · rw [if_pos hi, if_pos hi, decide_eq_true hi, Bool.true_and]
  · rw [if_neg hi, if_neg hi]
    by_cases hj : i - 16 < 16
    · rw [decide_eq_true hj, Bool.true_and]
    · rw [decide_eq_false hj, Bool.false_and, BitVec.getLsbD_of_ge _ _ (by omega)]

/-- The bits of one code are those of its half byte's number. -/
theorem lane_eq : ∀ m : Fin 2, ∀ x : BitVec 8,
    lane (4 * m) x = ((BitVec.ofNat 16 (x.toNat / 16 ^ m.val % 16)) ^^^ 8#16) ||| 0x4300#16 := by decide +kernel

/-- Those bits, read as a number and less 136, are the number the half byte stands for. -/
theorem ofBits_level : ∀ k : Fin 16,
    Ideal.ofBits .bf16 ((BitVec.ofNat 16 k.val ^^^ 8#16) ||| 0x4300#16) - Ideal.ofBits .bf16 0x4308#16 = Spec.level k.val := by
  intro k
  fin_cases k <;> simp [Ideal.ofBits, Ideal.ieee, Spec.level]
  all_goals
    rw [← EReal.coe_sub]
    norm_num

/-- One code's bits, read as a number and less 136. -/
theorem lane_level (m : Nat) (hm : m < 2) (x : BitVec 8) :
    Ideal.ofBits .bf16 (lane (4 * m) x) - Ideal.ofBits .bf16 0x4308#16 = Spec.nib m x := by
  rw [lane_eq ⟨m, hm⟩ x]
  exact ofBits_level ⟨x.toNat / 16 ^ m % 16, Nat.mod_lt _ (by decide)⟩

/-- A tile of codes transposed, packed two to a word, decoded a word at a time and unpacked: at each place, its own code's bits. -/
theorem words_apply (x : IVec S128x256 8) (v : IVec S128x256 16) (hv : ∀ i, v i = (x i).setWidth 16)
    (s : BitVec 32) (m : Nat) (hm : m < 2) (hs : s.toNat = 4 * m) (j : S128x256.Idx) :
    bitcast S128x256 16 (ori (xori (andi (shrsi (bitcast S64x256 32 v bitcasts_S128x256_w16_S64x256_w32) (broadcast S64x256 s))
      (broadcast S64x256 983055#32)) (broadcast S64x256 524296#32)) (broadcast S64x256 1124090624#32))
      bitcasts_S64x256_w32_S128x256_w16 j = lane (4 * m) (x j) := by
  have h4 : 4 * m = 0 ∨ 4 * m = 4 := by omega
  have hr : (j 0).val % 2 = 0 ∨ (j 0).val % 2 = 1 := by omega
  have hsh (w : BitVec 32) : IntOp.shrsi .vector w s = w.sshiftRight (4 * m) := by
    unfold IntOp.shrsi
    rw [if_pos (by omega), BitVec.sshiftRight', hs]
  rw [bitcast_32_16]
  simp only [ori, xori, andi, shrsi, broadcast, hsh]
  rw [bitcast_16_32]
  rw [hv, hv]
  refine (word_pair _ _ (4 * m) h4 _ hr).trans (congrArg (lane (4 * m)) ?_)
  · rcases hr with h | h
    · rw [if_pos h]
      refine congrArg x (funext fun a => Fin.ext ?_)
      match a with
      | ⟨0, _⟩ =>
        rw [Shape.Bitcasts.srcIdx_row _ _ _ _ _ rfl]
        have e : S64x256.row (bitcasts_S64x256_w32_S128x256_w16.srcIdx j (S128x256.row j / 2) (by
            intro a ha; have := bitcasts_S64x256_w32_S128x256_w16.pos_lt j 0 (by decide) a ha; omega)) = (j 0).val / 2 :=
          Shape.Bitcasts.srcIdx_row _ _ _ _ ⟨0, by decide⟩ rfl
        rw [e]; show 2 * ((j 0).val / 2) = (j 0).val; omega
      | ⟨1, _⟩ =>
        rw [Shape.Bitcasts.srcIdx_other _ _ _ _ _ (show ¬ (1 + 2 = 2) by decide)]
        exact Shape.Bitcasts.srcIdx_other _ _ _ _ ⟨1, by decide⟩ (by decide)
    · rw [if_neg (by omega)]
      refine congrArg x (funext fun a => Fin.ext ?_)
      match a with
      | ⟨0, _⟩ =>
        rw [Shape.Bitcasts.srcIdx_row _ _ _ _ _ rfl]
        have e : S64x256.row (bitcasts_S64x256_w32_S128x256_w16.srcIdx j (S128x256.row j / 2) (by
            intro a ha; have := bitcasts_S64x256_w32_S128x256_w16.pos_lt j 0 (by decide) a ha; omega)) = (j 0).val / 2 :=
          Shape.Bitcasts.srcIdx_row _ _ _ _ ⟨0, by decide⟩ rfl
        rw [e]; show 2 * ((j 0).val / 2) + 1 = (j 0).val; omega
      | ⟨1, _⟩ =>
        rw [Shape.Bitcasts.srcIdx_other _ _ _ _ _ (show ¬ (1 + 2 = 2) by decide)]
        exact Shape.Bitcasts.srcIdx_other _ _ _ _ ⟨1, by decide⟩ (by decide)

/-- One stored tile at a place: the number of the code there times the scale of the tile's group of columns. -/
theorem tile (v5 : Vec Ideal S1x256x128 .i8) (r : FVec Ideal S1x256 .f32) (o m : Nat) (s : BitVec 32)
    (hm : m < 2) (hs : s.toNat = 4 * m) (h4 : S128x256.Slices ![o, 0] S64x256) (x : S1x64x256.Idx) (k : Fin 128) (hk : k.val = o + (x 1).val) :
    shapeCast S1x64x256 (mulf (extractStridedSlice S64x256 ![o, 0] (subf (bitcastToFloat (F := Ideal) .bf16 (bitcast S128x256 16 (ori (xori (andi (shrsi (bitcast S64x256 32
        (transpose S128x256 [1, 0] (trunci 16 (extui 32 (shapeCast S256x128 v5 shapeCasts_S1x256x128_S256x128) natLt_8_32) natLt_16_32) transposes_S256x128_p1_0_S128x256)
        bitcasts_S128x256_w16_S64x256_w32) (broadcast S64x256 s))
      (broadcast S64x256 983055#32)) (broadcast S64x256 524296#32)) (broadcast S64x256 1124090624#32))
      bitcasts_S64x256_w32_S128x256_w16)) (broadcast S128x256 (Scalar.ofBits .bf16 0x4308#16))) h4)
      (truncf .bf16 (broadcastTo S64x256 (shapeCast S1x256 r shapeCasts_S1x256_S1x256)
        broadcasts_S1x256_S64x256) bitsLt_bf16_f32)) shapeCasts_S64x256_S1x64x256 x
      = Spec.nib m (v5 (ix3 0 (x 2) k)) * r (ix2 0 (x 2)) := by
  idx_vars x
  pointwise []
  rw [words_apply (transpose S128x256 [1, 0] (shapeCast S256x128 v5 shapeCasts_S1x256x128_S256x128) transposes_S256x128_p1_0_S128x256)
    _ (fun i => ?_) s m hm hs, lane_level m hm]
  · pointwise []
    rw [show (⟨o + x1.val, _⟩ : Fin 128) = k from Fin.ext hk.symm]
  · pointwise []
    apply BitVec.eq_of_toNat_eq
    have := (v5 (ix3 0 (i 1) (i 0))).isLt
    simp only [BitVec.toNat_setWidth]
    omega

/-- A row of the transposed scales, of twenty-eight groups, at a column. -/
theorem scale28 (v0 : Vec Ideal S1x256x28 .f32) (g : Nat) (h3 : S28x256.Slices ![g, 0] S1x256) (q : Fin 28) (hq : q.val = g) (c : Fin 256) :
    extractStridedSlice S1x256 ![g, 0] (extf (F := Ideal) .f32 (truncf (F := Ideal) .bf16 (transpose S28x256 [1, 0] (shapeCast S256x28 v0 shapeCasts_S1x256x28_S256x28)
      transposes_S256x28_p1_0_S28x256) bitsLt_bf16_f32) bitsLt_bf16_f32) h3 (ix2 0 c) = v0 (ix3 0 c q) := by
  subst hq
  pointwise []

/-- A row of the transposed scales, of fifty-six groups, at a column. -/
theorem scale56 (v0 : Vec Ideal S1x256x56 .f32) (g : Nat) (h3 : S56x256.Slices ![g, 0] S1x256) (q : Fin 56) (hq : q.val = g) (c : Fin 256) :
    extractStridedSlice S1x256 ![g, 0] (extf (F := Ideal) .f32 (truncf (F := Ideal) .bf16 (transpose S56x256 [1, 0] (shapeCast S256x56 v0 shapeCasts_S1x256x56_S256x56)
      transposes_S256x56_p1_0_S56x256) bitsLt_bf16_f32) bitsLt_bf16_f32) h3 (ix2 0 c) = v0 (ix3 0 c q) := by
  subst hq
  pointwise []

end Cert.KernelIdeal.Val
-- ==== Proof.RegionDecodeR.lean ====
module

public import proofs.«01_k».proof.Proof.Lanes
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (V : (c : Dev nD) → (b : Ref sig .tc) → Buf (Elt Ideal) ((c : Thread nD τ).loc b))

/-- A stored tile of call 0 at a place of its block: the number of the code there times its group's scale. -/
theorem piece0 (X0 : Vec Ideal S1x256x896 .i8) (X1 : Vec Ideal S1x256x28 .f32) (off o g : Nat) (s : BitVec 32)
    (inb : ∀ a, ![0, 0, off] a + S1x256x128.size a ≤ S1x256x896.size a) (h4 : S128x256.Slices ![o, 0] S64x256)
    (h3 : S28x256.Slices ![g, 0] S1x256) (x : S1x64x256.Idx) (i : Fin 1792) (c : Fin 256) (hs : s.toNat = 4 * (i.val / 896))
    (hk : i.val % 896 = off + o + (x 1).val) (ho : o + (x 1).val < 128) (hg : i.val / 64 = g) (hc : (x 2).val = c.val) :
    shapeCast S1x64x256 (mulf (extractStridedSlice S64x256 ![o, 0] (subf (bitcastToFloat (F := Ideal) .bf16 (bitcast S128x256 16 (ori (xori (andi (shrsi (bitcast S64x256 32
        (transpose S128x256 [1, 0] (trunci 16 (extui 32 (shapeCast S256x128 (View.ld X0 (Rect.unit (s := S1x256x896) ![0, 0, off] S1x256x128.size inb)) shapeCasts_S1x256x128_S256x128) natLt_8_32) natLt_16_32) transposes_S256x128_p1_0_S128x256)
        bitcasts_S128x256_w16_S64x256_w32) (broadcast S64x256 s))
      (broadcast S64x256 983055#32)) (broadcast S64x256 524296#32)) (broadcast S64x256 1124090624#32))
      bitcasts_S64x256_w32_S128x256_w16)) (broadcast S128x256 (Scalar.ofBits .bf16 0x4308#16))) h4)
      (truncf .bf16 (broadcastTo S64x256 (shapeCast S1x256 (extractStridedSlice S1x256 ![g, 0] (extf (F := Ideal) .f32 (truncf (F := Ideal) .bf16 (transpose S28x256 [1, 0]
        (shapeCast S256x28 X1 shapeCasts_S1x256x28_S256x28) transposes_S256x28_p1_0_S28x256) bitsLt_bf16_f32) bitsLt_bf16_f32) h3) shapeCasts_S1x256_S1x256)
        broadcasts_S1x256_S64x256) bitsLt_bf16_f32)) shapeCasts_S64x256_S1x64x256 x
      = Spec.nib (i.val / 896) (X0 (ix3 0 c ⟨i.val % 896, Spec.mod_lt (by decide) i⟩)) * X1 (ix3 0 c ⟨i.val / 64, Spec.div_lt (by decide) i⟩) := by
  have hi := i.isLt
  refine (tile _ _ o (i.val / 896) s (by omega) hs h4 x ⟨o + (x 1).val, ho⟩ rfl).trans
    (congrArg₂ (fun a b : EReal => a * b) (congrArg (Spec.nib _) (congrArg X0 (funext fun a => Fin.ext ?_)))
      ((scale28 X1 g h3 ⟨i.val / 64, Spec.div_lt (by decide) i⟩ hg (x 2)).trans (congrArg X1 (funext fun a => Fin.ext ?_))))
  · match a with
    | ⟨0, _⟩ => rfl
    | ⟨1, _⟩ => show 0 + 1 * (x 2).val = c.val; omega
    | ⟨2, _⟩ => show off + 1 * (o + (x 1).val) = i.val % 896; omega
  · match a with
    | ⟨0, _⟩ => rfl
    | ⟨1, _⟩ => exact hc
    | ⟨2, _⟩ => rfl

/-- What call 0 leaves in a block, from the blocks of codes and scales it reads. -/
theorem block0 (X0 : Vec Ideal S1x256x896 .i8) (X1 : Vec Ideal S1x256x28 .f32) (i : Fin 1792) (c : Fin 256) :
    out0_2 X0 X1 (ix3 0 i c)
      = Spec.nib (i.val / 896) (X0 (ix3 0 c ⟨i.val % 896, Spec.mod_lt (by decide) i⟩)) * X1 (ix3 0 c ⟨i.val / 64, Spec.div_lt (by decide) i⟩) := by
  unfold_out out0_2
  canon_tiles x h
  all_goals
    open_payloads
    refine piece0 X0 X1 _ _ _ _ _ _ _ x i c ?_ ?_ ?_ ?_ ?_
    all_goals
      have e1 : i.val = _ := h1
      have e2 : c.val = _ := h2
      first | omega | (rw [BitVec.toNat_ofNat]; omega)

/-- Which block of each array a point of call 0's grid takes. -/
theorem idx0 : ∀ t : Fin grid0.N,
    win0_0.index t = ![(grid0.coords t 0).val, (grid0.coords t 1).val, 0] ∧
    win0_1.index t = ![(grid0.coords t 0).val, (grid0.coords t 1).val, 0] ∧
    win0_2.index t = ![(grid0.coords t 0).val, 0, (grid0.coords t 1).val] := by decide +kernel

/-- Call 0 leaves the decoded matrix, transposed. -/
theorem region0 (c : Dev nD) : (dat0 V c).arrAt 2 cfg0.N
    = Spec.decT (n := 1792) (h := 896) (q := 28) rfl rfl (V c main_arg5) (V c main_arg6) := by
  refine (dat0 V c).arrAt_eq_of_covers 2 _ (by decide +kernel) fun t hf y => ?_
  blk_simp
  rw [after0_2]
  idx_vars y
  obtain rfl : y0 = 0 := Fin.eq_zero _
  obtain ⟨e0, e1, e2⟩ := idx0 t
  refine (block0 _ _ y1 y2).trans ?_
  have h1 : ((((View.whole main_v0).slice (win0_2.rect t)).emb (ix3 0 y1 y2) 1 : Fin 1792)).val = y1.val := by
    blk_simp [e2]
  have hc : iblk0 V c 0 t (ix3 0 y2 ⟨y1.val % 896, Spec.mod_lt (by decide) y1⟩)
      = V c main_arg5 (ix3 (((View.whole main_v0).slice (win0_2.rect t)).emb (ix3 0 y1 y2) 0) (((View.whole main_v0).slice (win0_2.rect t)).emb (ix3 0 y1 y2) 2)
        ⟨y1.val % 896, Spec.mod_lt (by decide) y1⟩) := by
    blk_point [iblk0, e0, e1, e2]
  have hs : iblk0 V c 1 t (ix3 0 y2 ⟨y1.val / 64, Spec.div_lt (by decide) y1⟩)
      = V c main_arg6 (ix3 (((View.whole main_v0).slice (win0_2.rect t)).emb (ix3 0 y1 y2) 0) (((View.whole main_v0).slice (win0_2.rect t)).emb (ix3 0 y1 y2) 2)
        ⟨y1.val / 64, Spec.div_lt (by decide) y1⟩) := by
    blk_point [iblk0, e0, e1, e2]
  have hj : (((View.whole main_v0).slice (win0_2.rect t)).emb (ix3 0 y1 y2) 1 : Fin 1792) = y1 := Fin.ext h1
  refine (congrArg₂ (fun a b : EReal => a * b) (congrArg (Spec.nib _) hc) hs).trans ?_
  exact congrArg (Spec.decAt (n := 1792) (h := 896) (q := 28) rfl rfl (V c main_arg5) (V c main_arg6)
    (((View.whole main_v0).slice (win0_2.rect t)).emb (ix3 0 y1 y2) 0) (((View.whole main_v0).slice (win0_2.rect t)).emb (ix3 0 y1 y2) 2)) hj.symm

end Cert.KernelIdeal.Val
-- ==== Proof.RegionDecodeL.lean ====
module

public import proofs.«01_k».proof.Proof.Lanes
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (V : (c : Dev nD) → (b : Ref sig .tc) → Buf (Elt Ideal) ((c : Thread nD τ).loc b))

/-- A stored tile of call 1 at a place of its block: the number of the code there times its group's scale. -/
theorem piece1 (X0 : Vec Ideal S1x256x1792 .i8) (X1 : Vec Ideal S1x256x56 .f32) (off o g : Nat) (s : BitVec 32)
    (inb : ∀ a, ![0, 0, off] a + S1x256x128.size a ≤ S1x256x1792.size a) (h4 : S128x256.Slices ![o, 0] S64x256)
    (h3 : S56x256.Slices ![g, 0] S1x256) (x : S1x64x256.Idx) (i : Fin 3584) (c : Fin 256) (hs : s.toNat = 4 * (i.val / 1792))
    (hk : i.val % 1792 = off + o + (x 1).val) (ho : o + (x 1).val < 128) (hg : i.val / 64 = g) (hc : (x 2).val = c.val) :
    shapeCast S1x64x256 (mulf (extractStridedSlice S64x256 ![o, 0] (subf (bitcastToFloat (F := Ideal) .bf16 (bitcast S128x256 16 (ori (xori (andi (shrsi (bitcast S64x256 32
        (transpose S128x256 [1, 0] (trunci 16 (extui 32 (shapeCast S256x128 (View.ld X0 (Rect.unit (s := S1x256x1792) ![0, 0, off] S1x256x128.size inb)) shapeCasts_S1x256x128_S256x128) natLt_8_32) natLt_16_32) transposes_S256x128_p1_0_S128x256)
        bitcasts_S128x256_w16_S64x256_w32) (broadcast S64x256 s))
      (broadcast S64x256 983055#32)) (broadcast S64x256 524296#32)) (broadcast S64x256 1124090624#32))
      bitcasts_S64x256_w32_S128x256_w16)) (broadcast S128x256 (Scalar.ofBits .bf16 0x4308#16))) h4)
      (truncf .bf16 (broadcastTo S64x256 (shapeCast S1x256 (extractStridedSlice S1x256 ![g, 0] (extf (F := Ideal) .f32 (truncf (F := Ideal) .bf16 (transpose S56x256 [1, 0]
        (shapeCast S256x56 X1 shapeCasts_S1x256x56_S256x56) transposes_S256x56_p1_0_S56x256) bitsLt_bf16_f32) bitsLt_bf16_f32) h3) shapeCasts_S1x256_S1x256)
        broadcasts_S1x256_S64x256) bitsLt_bf16_f32)) shapeCasts_S64x256_S1x64x256 x
      = Spec.nib (i.val / 1792) (X0 (ix3 0 c ⟨i.val % 1792, Spec.mod_lt (by decide) i⟩)) * X1 (ix3 0 c ⟨i.val / 64, Spec.div_lt (by decide) i⟩) := by
  have hi := i.isLt
  refine (tile _ _ o (i.val / 1792) s (by omega) hs h4 x ⟨o + (x 1).val, ho⟩ rfl).trans
    (congrArg₂ (fun a b : EReal => a * b) (congrArg (Spec.nib _) (congrArg X0 (funext fun a => Fin.ext ?_)))
      ((scale56 X1 g h3 ⟨i.val / 64, Spec.div_lt (by decide) i⟩ hg (x 2)).trans (congrArg X1 (funext fun a => Fin.ext ?_))))
  · match a with
    | ⟨0, _⟩ => rfl
    | ⟨1, _⟩ => show 0 + 1 * (x 2).val = c.val; omega
    | ⟨2, _⟩ => show off + 1 * (o + (x 1).val) = i.val % 1792; omega
  · match a with
    | ⟨0, _⟩ => rfl
    | ⟨1, _⟩ => exact hc
    | ⟨2, _⟩ => rfl

/-- What call 1 leaves in a block, from the blocks of codes and scales it reads. -/
theorem block1 (X0 : Vec Ideal S1x256x1792 .i8) (X1 : Vec Ideal S1x256x56 .f32) (i : Fin 3584) (c : Fin 256) :
    out1_2 X0 X1 (ix3 0 i c)
      = Spec.nib (i.val / 1792) (X0 (ix3 0 c ⟨i.val % 1792, Spec.mod_lt (by decide) i⟩)) * X1 (ix3 0 c ⟨i.val / 64, Spec.div_lt (by decide) i⟩) := by
  unfold_out out1_2
  canon_tiles x h
  all_goals
    open_payloads
    refine piece1 X0 X1 _ _ _ _ _ _ _ x i c ?_ ?_ ?_ ?_ ?_
    all_goals
      have e1 : i.val = _ := h1
      have e2 : c.val = _ := h2
      first | omega | (rw [BitVec.toNat_ofNat]; omega)

/-- Which block of each array a point of call 1's grid takes. -/
theorem idx1 : ∀ t : Fin grid1.N,
    win1_0.index t = ![(grid1.coords t 0).val, (grid1.coords t 1).val, 0] ∧
    win1_1.index t = ![(grid1.coords t 0).val, (grid1.coords t 1).val, 0] ∧
    win1_2.index t = ![(grid1.coords t 0).val, 0, (grid1.coords t 1).val] := by decide +kernel

/-- Call 1 leaves the decoded matrix, transposed. -/
theorem region1 (c : Dev nD) : (dat1 V c).arrAt 2 cfg1.N
    = Spec.decT (n := 3584) (h := 1792) (q := 56) rfl rfl (V c main_arg2) (V c main_arg3) := by
  refine (dat1 V c).arrAt_eq_of_covers 2 _ (by decide +kernel) fun t hf y => ?_
  blk_simp
  rw [after1_2]
  idx_vars y
  obtain rfl : y0 = 0 := Fin.eq_zero _
  obtain ⟨e0, e1, e2⟩ := idx1 t
  refine (block1 _ _ y1 y2).trans ?_
  have h1 : ((((View.whole main_v1).slice (win1_2.rect t)).emb (ix3 0 y1 y2) 1 : Fin 3584)).val = y1.val := by
    blk_simp [e2]
  have hc : iblk1 V c 0 t (ix3 0 y2 ⟨y1.val % 1792, Spec.mod_lt (by decide) y1⟩)
      = V c main_arg2 (ix3 (((View.whole main_v1).slice (win1_2.rect t)).emb (ix3 0 y1 y2) 0) (((View.whole main_v1).slice (win1_2.rect t)).emb (ix3 0 y1 y2) 2)
        ⟨y1.val % 1792, Spec.mod_lt (by decide) y1⟩) := by
    blk_point [iblk1, e0, e1, e2]
  have hs : iblk1 V c 1 t (ix3 0 y2 ⟨y1.val / 64, Spec.div_lt (by decide) y1⟩)
      = V c main_arg3 (ix3 (((View.whole main_v1).slice (win1_2.rect t)).emb (ix3 0 y1 y2) 0) (((View.whole main_v1).slice (win1_2.rect t)).emb (ix3 0 y1 y2) 2)
        ⟨y1.val / 64, Spec.div_lt (by decide) y1⟩) := by
    blk_point [iblk1, e0, e1, e2]
  have hj : (((View.whole main_v1).slice (win1_2.rect t)).emb (ix3 0 y1 y2) 1 : Fin 3584) = y1 := Fin.ext h1
  refine (congrArg₂ (fun a b : EReal => a * b) (congrArg (Spec.nib _) hc) hs).trans ?_
  exact congrArg (Spec.decAt (n := 3584) (h := 1792) (q := 56) rfl rfl (V c main_arg2) (V c main_arg3)
    (((View.whole main_v1).slice (win1_2.rect t)).emb (ix3 0 y1 y2) 0) (((View.whole main_v1).slice (win1_2.rect t)).emb (ix3 0 y1 y2) 2)) hj.symm

end Cert.KernelIdeal.Val
-- ==== Proof.RegionGram.lean ====
/- What the two Gram calls leave in their arrays, from any contents their operand holds. -/
module

public import proofs.«01_k».proof.Proof.Spec
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (V : (c : Dev nD) → (b : Ref sig .tc) → Buf (Elt Ideal) ((c : Thread nD τ).loc b))

/-- The two places' numbers, as words, are equal exactly on the diagonal. -/
theorem diag {n : Nat} (hn : n < 2 ^ 32) (i j : Fin n) (a b x y p q : Nat)
    (hi : i.val = a * p + x) (hj : j.val = b * q + y) :
    Scalar.select (IntOp.cmpi .eq
      (IntOp.addi (BitVec.ofNat 32 x) (Scalar.muli (BitVec.ofNat 32 a) (BitVec.ofNat 32 p)))
      (IntOp.addi (BitVec.ofNat 32 y) (Scalar.muli (BitVec.ofNat 32 b) (BitVec.ofNat 32 q)))) (1 : EReal) 0
      = Spec.eye i j := by
  have e1 : IntOp.addi (BitVec.ofNat 32 x) (Scalar.muli (BitVec.ofNat 32 a) (BitVec.ofNat 32 p)) = BitVec.ofNat 32 i.val := by
    rw [hi, Nat.add_comm, BitVec.ofNat_add, BitVec.ofNat_mul]; rfl
  have e2 : IntOp.addi (BitVec.ofNat 32 y) (Scalar.muli (BitVec.ofNat 32 b) (BitVec.ofNat 32 q)) = BitVec.ofNat 32 j.val := by
    rw [hj, Nat.add_comm, BitVec.ofNat_add, BitVec.ofNat_mul]; rfl
  have h : BitVec.ofNat 32 i.val = BitVec.ofNat 32 j.val ↔ i.val = j.val := by
    have hi' := i.isLt
    have hj' := j.isLt
    rw [← BitVec.toNat_inj, BitVec.toNat_ofNat, BitVec.toNat_ofNat, Nat.mod_eq_of_lt (by omega), Nat.mod_eq_of_lt (by omega)]
  rw [e1, e2]
  by_cases hd : i.val = j.val
  · simp [Scalar.select, IntOp.cmpi, Spec.eye, hd]
  · have hw : ¬ BitVec.ofNat 32 i.val = BitVec.ofNat 32 j.val := fun e => hd (h.mp e)
    simp [Scalar.select, IntOp.cmpi, Spec.eye, hd, beq_eq_false_iff_ne.mpr hw]

/-- Which block of each array a point of the right-hand Gram grid takes. -/
theorem idx2 : ∀ t : Fin grid2.N,
    win2_0.index t = ![(grid2.coords t 0).val, (grid2.coords t 1).val, 0] ∧
    win2_1.index t = ![(grid2.coords t 0).val, (grid2.coords t 2).val, 0] ∧
    win2_2.index t = ![(grid2.coords t 0).val, (grid2.coords t 1).val, (grid2.coords t 2).val] := by decide +kernel

/-- The right-hand Gram call leaves the Gram error of its operand's rows. -/
theorem region2 (c : Dev nD) : (dat2 V c).arrAt 2 cfg2.N = Spec.gram (V c main_v0) := by
  refine (dat2 V c).arrAt_eq_of_covers 2 _ (by decide +kernel) fun t hf y => ?_
  blk_simp
  rw [after2_2]
  frame_out
  idx_vars y
  pointwise [k2_pay1]
  obtain ⟨e0, e1, e2⟩ := idx2 t
  unfold Spec.gram
  dsimp only
  have hz : (grid2.coords t 2).val = 0 := by
    have h := (grid2.coords t 2).isLt
    exact Nat.lt_one_iff.mp h
  have h1 : ((((View.whole main_v2).slice (win2_2.rect t)).emb (ix3 y0 y1 y2) 1 : Fin 1792)).val = (grid2.coords t 1).val * 896 + y1.val := by
    blk_simp [e2]
  have h2 : ((((View.whole main_v2).slice (win2_2.rect t)).emb (ix3 y0 y1 y2) 2 : Fin 1792)).val = (grid2.coords t 2).val * 1792 + y2.val := by
    blk_simp [e2]
  refine congrArg₂ (fun a b : EReal => a - b) ?_ (diag (n := 1792) (by decide) _ _ _ _ _ _ _ _ h1 (h2.trans (by rw [hz])))
  blk_point [iblk2, e0, e1, e2]

/-- Which block of each array a point of the left-hand Gram grid takes. -/
theorem idx4 : ∀ t : Fin grid4.N,
    win4_0.index t = ![(grid4.coords t 0).val, (grid4.coords t 1).val, 0] ∧
    win4_1.index t = ![(grid4.coords t 0).val, (grid4.coords t 2).val, 0] ∧
    win4_2.index t = ![(grid4.coords t 0).val, (grid4.coords t 1).val, (grid4.coords t 2).val] := by decide +kernel

/-- The left-hand Gram call leaves the Gram error of its operand's rows. -/
theorem region4 (c : Dev nD) : (dat4 V c).arrAt 2 cfg4.N = Spec.gram (V c main_v1) := by
  refine (dat4 V c).arrAt_eq_of_covers 2 _ (by decide +kernel) fun t hf y => ?_
  blk_simp
  rw [after4_2]
  frame_out
  idx_vars y
  pointwise [k4_pay1]
  obtain ⟨e0, e1, e2⟩ := idx4 t
  unfold Spec.gram
  dsimp only
  have h1 : ((((View.whole main_v4).slice (win4_2.rect t)).emb (ix3 y0 y1 y2) 1 : Fin 3584)).val = (grid4.coords t 1).val * 1792 + y1.val := by
    blk_simp [e2]
  have h2 : ((((View.whole main_v4).slice (win4_2.rect t)).emb (ix3 y0 y1 y2) 2 : Fin 3584)).val = (grid4.coords t 2).val * 512 + y2.val := by
    blk_simp [e2]
  refine congrArg₂ (fun a b : EReal => a - b) ?_ (diag (n := 3584) (by decide) _ _ _ _ _ _ _ _ h1 h2)
  blk_point [iblk4, e0, e1, e2]

end Cert.KernelIdeal.Val
-- ==== Proof.RegionCorrect.lean ====
/- What the two correction calls leave in their arrays, from any contents their operands hold. -/
module

public import proofs.«01_k».proof.Proof.Spec
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (V : (c : Dev nD) → (b : Ref sig .tc) → Buf (Elt Ideal) ((c : Thread nD τ).loc b))

/-- Which block of each array a point of the right-hand correction's grid takes. -/
theorem idx3 : ∀ t : Fin grid3.N,
    win3_0.index t = ![(grid3.coords t 0).val, (grid3.coords t 1).val, 0] ∧
    win3_1.index t = ![(grid3.coords t 0).val, 0, (grid3.coords t 2).val] ∧
    win3_2.index t = ![(grid3.coords t 0).val, (grid3.coords t 1).val, (grid3.coords t 2).val] ∧
    win3_3.index t = ![(grid3.coords t 0).val, (grid3.coords t 1).val, (grid3.coords t 2).val] := by decide +kernel

/-- The right-hand correction call leaves one correction step of its operands. -/
theorem region3 (c : Dev nD) : (dat3 V c).arrAt 3 cfg3.N = Spec.correct (V c main_v2) (V c main_v0) := by
  refine (dat3 V c).arrAt_eq_of_covers 3 _ (by decide +kernel) fun t hf y => ?_
  blk_simp
  rw [after3_3]
  frame_out
  idx_vars y
  pointwise [k3_pay1]
  obtain ⟨e0, e1, e2, e3⟩ := idx3 t
  unfold Spec.correct
  blk_point [iblk3, e0, e1, e2, e3]

/-- Which block of each array a point of the left-hand correction's grid takes. -/
theorem idx5 : ∀ t : Fin grid5.N,
    win5_0.index t = ![(grid5.coords t 0).val, (grid5.coords t 1).val, 0] ∧
    win5_1.index t = ![(grid5.coords t 0).val, 0, (grid5.coords t 2).val] ∧
    win5_2.index t = ![(grid5.coords t 0).val, (grid5.coords t 1).val, (grid5.coords t 2).val] ∧
    win5_3.index t = ![(grid5.coords t 0).val, (grid5.coords t 1).val, (grid5.coords t 2).val] := by decide +kernel

/-- The left-hand correction call leaves one correction step of its operands. -/
theorem region5 (c : Dev nD) : (dat5 V c).arrAt 3 cfg5.N = Spec.correct (V c main_v4) (V c main_v1) := by
  refine (dat5 V c).arrAt_eq_of_covers 3 _ (by decide +kernel) fun t hf y => ?_
  blk_simp
  rw [after5_3]
  frame_out
  idx_vars y
  pointwise [k5_pay1]
  obtain ⟨e0, e1, e2, e3⟩ := idx5 t
  unfold Spec.correct
  blk_point [iblk5, e0, e1, e2, e3]

end Cert.KernelIdeal.Val
-- ==== Proof.RegionMid.lean ====
/- What the call that takes the gradient to the eigenbases leaves in its three arrays. -/
module

public import proofs.«01_k».proof.Proof.Spec
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (V : (c : Dev nD) → (b : Ref sig .tc) → Buf (Elt Ideal) ((c : Thread nD τ).loc b))

/-- Which block of each array a point of the call's grid takes. -/
theorem idx6 : ∀ t : Fin grid6.N,
    win6_0.index t = ![(grid6.coords t 0).val, (grid6.coords t 1).val, 0] ∧
    win6_1.index t = ![(grid6.coords t 0).val, 0, 0] ∧
    win6_2.index t = ![(grid6.coords t 0).val, 0, 0] ∧
    win6_3.index t = ![(grid6.coords t 0).val, (grid6.coords t 1).val, 0] ∧
    win6_4.index t = ![(grid6.coords t 0).val, 0, 0] ∧
    win6_5.index t = ![(grid6.coords t 0).val, (grid6.coords t 1).val, 0] ∧
    win6_6.index t = ![(grid6.coords t 0).val, (grid6.coords t 1).val, 0] ∧
    win6_7.index t = ![(grid6.coords t 0).val, 0, (grid6.coords t 1).val] ∧
    win6_8.index t = ![(grid6.coords t 0).val, (grid6.coords t 1).val, 0] ∧
    win6_9.index t = ![(grid6.coords t 0).val, (grid6.coords t 1).val, 0, 0] := by decide +kernel

/-- Its first array: the scaled gradient in both eigenbases, transposed. -/
theorem region6_7 (c : Dev nD) : (dat6 V c).arrAt 7 cfg6.N =
    Spec.mid (V c main_v5) (V c main_arg0) (V c main_v3) (V c main_v6) (V c main_v7) := by
  refine (dat6 V c).arrAt_eq_of_covers 7 _ (by decide +kernel) fun t hf y => ?_
  blk_simp
  rw [after6_7]
  frame_out
  idx_vars y
  pointwise [k6_pay4]
  obtain ⟨e0, e1, e2, e3, e4, e5, e6, e7, e8, e9⟩ := idx6 t
  unfold Spec.mid Spec.root
  blk_point [iblk6, e0, e1, e2, e3, e4, e5, e6, e7, e8, e9]

/-- Its second array: the diagonal update. -/
theorem region6_8 (c : Dev nD) : (dat6 V c).arrAt 8 cfg6.N = Spec.ada (V c main_arg0) (V c main_arg1) := by
  refine (dat6 V c).arrAt_eq_of_covers 8 _ (by decide +kernel) fun t hf y => ?_
  blk_simp
  rw [after6_8]
  frame_out
  idx_vars y
  pointwise [k6_pay2, k6_pay1, k6_pay6, k6_pay5]
  obtain ⟨e0, e1, e2, e3, e4, e5, e6, e7, e8, e9⟩ := idx6 t
  unfold Spec.ada Spec.adaAt
  blk_point [iblk6, e0, e1, e2, e3, e4, e5, e6, e7, e8, e9]

/-- Its third array: partial sums of the diagonal update's squares, over blocks of 256 rows. -/
theorem region6_9 (c : Dev nD) : (dat6 V c).arrAt 9 cfg6.N =
    Spec.squares 14 32 (by decide) (Spec.adaAt (V c main_arg0) (V c main_arg1)) := by
  refine (dat6 V c).arrAt_eq_of_covers 9 _ (by decide +kernel) fun t hf y => ?_
  blk_simp
  rw [after6_9]
  frame_out
  idx_vars y
  pointwise [k6_pay3, k6_pay1, k6_pay6, k6_pay5]
  obtain ⟨e0, e1, e2, e3, e4, e5, e6, e7, e8, e9⟩ := idx6 t
  unfold Spec.squares Spec.adaAt
  blk_point [iblk6, e0, e1, e2, e3, e4, e5, e6, e7, e8, e9]

end Cert.KernelIdeal.Val
-- ==== Proof.RegionBack.lean ====
/- What the call that goes back from the eigenbases leaves in its two arrays. -/
module

public import proofs.«01_k».proof.Proof.Spec
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (V : (c : Dev nD) → (b : Ref sig .tc) → Buf (Elt Ideal) ((c : Thread nD τ).loc b))

/-- Which block of each array a point of the call's grid takes. -/
theorem idx7 : ∀ t : Fin grid7.N,
    win7_0.index t = ![(grid7.coords t 0).val, 0, (grid7.coords t 1).val] ∧
    win7_1.index t = ![(grid7.coords t 0).val, 0, 0] ∧
    win7_2.index t = ![(grid7.coords t 0).val, 0, 0] ∧
    win7_3.index t = ![(grid7.coords t 0).val, (grid7.coords t 1).val, 0] ∧
    win7_4.index t = ![(grid7.coords t 0).val, (grid7.coords t 1).val, 0, 0] := by decide +kernel

/-- Its first array: the update before grafting. -/
theorem region7_3 (c : Dev nD) : (dat7 V c).arrAt 3 cfg7.N =
    Spec.back (V c main_v5) (V c main_v8_0) (V c main_v3) := by
  refine (dat7 V c).arrAt_eq_of_covers 3 _ (by decide +kernel) fun t hf y => ?_
  blk_simp
  rw [after7_3]
  frame_out
  idx_vars y
  pointwise [k7_pay2, k7_pay1]
  obtain ⟨e0, e1, e2, e3, e4⟩ := idx7 t
  unfold Spec.back Spec.backAt
  blk_point [iblk7, e0, e1, e2, e3, e4]

/-- Its second array: partial sums of that update's squares, over blocks of 512 rows. -/
theorem region7_4 (c : Dev nD) : (dat7 V c).arrAt 4 cfg7.N =
    Spec.squares 7 64 (by decide) (Spec.backAt (V c main_v5) (V c main_v8_0) (V c main_v3)) := by
  refine (dat7 V c).arrAt_eq_of_covers 4 _ (by decide +kernel) fun t hf y => ?_
  blk_simp
  rw [after7_4]
  frame_out
  idx_vars y
  pointwise [k7_pay3, k7_pay1]
  obtain ⟨e0, e1, e2, e3, e4⟩ := idx7 t
  unfold Spec.squares Spec.backAt
  blk_point [iblk7, e0, e1, e2, e3, e4]

end Cert.KernelIdeal.Val
-- ==== Proof.RegionGraft.lean ====
/- What the grafting call leaves in its array. -/
module

public import proofs.«01_k».proof.Proof.Spec
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (V : (c : Dev nD) → (b : Ref sig .tc) → Buf (Elt Ideal) ((c : Thread nD τ).loc b))

/-- Which block of each array a point of the call's grid takes. -/
theorem idx8 : ∀ t : Fin grid8.N,
    win8_0.index t = ![(grid8.coords t 0).val, (grid8.coords t 1).val, 0] ∧
    win8_1.index t = ![(grid8.coords t 0).val, 0, 0] ∧
    win8_2.index t = ![(grid8.coords t 0).val, 0, 0] ∧
    win8_3.index t = ![(grid8.coords t 0).val, (grid8.coords t 1).val, 0] := by decide +kernel

/-- The update times the quotient of the two norms, each norm from its partial sums. -/
theorem region8 (c : Dev nD) : (dat8 V c).arrAt 3 cfg8.N =
    Spec.graft (V c main_v9_0) (V c main_v10) (V c main_v11) := by
  refine (dat8 V c).arrAt_eq_of_covers 3 _ (by decide +kernel) fun t hf y => ?_
  blk_simp
  rw [after8_3]
  frame_out
  idx_vars y
  pointwise [k8_pay1]
  obtain ⟨e0, e1, e2, e3⟩ := idx8 t
  unfold Spec.graft
  have hx : iblk8 V c 0 t (ix3 0 y1 y2) = V c main_v9_0 (((View.whole main_v12).slice (win8_3.rect t)).emb (ix3 y0 y1 y2)) := by
    blk_point [iblk8, e0, e1, e2, e3]
  have ha (r : Fin 112) (k : Fin 1792) : iblk8 V c 1 t (ix3 0 r k)
      = V c main_v10 (ix3 (((View.whole main_v12).slice (win8_3.rect t)).emb (ix3 y0 y1 y2) 0) r k) := by
    blk_point [iblk8, e0, e1, e2, e3]
  have hp (r : Fin 56) (k : Fin 1792) : iblk8 V c 2 t (ix3 0 r k)
      = V c main_v11 (ix3 (((View.whole main_v12).slice (win8_3.rect t)).emb (ix3 y0 y1 y2) 0) r k) := by
    blk_point [iblk8, e0, e1, e2, e3]
  simp only [hx, ha, hp]
  rfl

end Cert.KernelIdeal.Val
-- ==== Proof.Values.lean ====
/- The kernel's two results as functions of its arguments: what each call leaves, put together along the program. -/
module

public import proofs.«01_k».proof.Proof.RegionDecodeR
public import proofs.«01_k».proof.Proof.RegionDecodeL
public import proofs.«01_k».proof.Proof.RegionGram
public import proofs.«01_k».proof.Proof.RegionCorrect
public import proofs.«01_k».proof.Proof.RegionMid
public import proofs.«01_k».proof.Proof.RegionBack
public import proofs.«01_k».proof.Proof.RegionGraft

@[expose] public section

set_option maxRecDepth 16384

noncomputable section

namespace Cert.KernelIdeal.Val

open Idealize.ShloMosaic Idealize.ShloMosaic.TcCoe Idealize.ShloMosaic.Tactic
open Idealize.SL.Sem Idealize.ShloMosaic.Pipeline
open Cert.KernelIdeal Cert.KernelIdeal.Gen

variable (m : (ℓ : Loc nD τ sig) → Buf (Elt Ideal) ℓ) (ρ : Dev nD → PrngReg) (c : Dev nD)

/-- The right basis as decoded, transposed. -/
def vR : Spec.A3 4 1792 1792 :=
  Spec.decT (n := 1792) (h := 896) (q := 28) rfl rfl (m ((c : Thread nD τ).loc main_arg5)) (m ((c : Thread nD τ).loc main_arg6))

/-- The left basis as decoded, transposed. -/
def vL : Spec.A3 4 3584 3584 :=
  Spec.decT (n := 3584) (h := 1792) (q := 56) rfl rfl (m ((c : Thread nD τ).loc main_arg2)) (m ((c : Thread nD τ).loc main_arg3))

/-- The right basis after its correction step, transposed. -/
def wR : Spec.A3 4 1792 1792 := Spec.correct (Spec.gram (vR m c)) (vR m c)

/-- The left basis after its correction step, transposed. -/
def wL : Spec.A3 4 3584 3584 := Spec.correct (Spec.gram (vL m c)) (vL m c)

/-- The left eigenvalues as a column. -/
def lamL : Spec.A3 4 3584 1 := fun i => m ((c : Thread nD τ).loc main_arg4) (ix2 (i 0) (i 1))

/-- The right eigenvalues as a column. -/
def lamR : Spec.A3 4 1792 1 := fun i => m ((c : Thread nD τ).loc main_arg7) (ix2 (i 0) (i 1))

/-- The scaled gradient in the eigenbases, transposed. -/
def middle : Spec.A3 4 1792 3584 :=
  Spec.mid (wL m c) (m ((c : Thread nD τ).loc main_arg0)) (wR m c) (lamL m c) (lamR m c)

/-- The diagonal update, at one place. -/
def adaK : Fin 4 → Fin 3584 → Fin 1792 → EReal :=
  Spec.adaAt (m ((c : Thread nD τ).loc main_arg0)) (m ((c : Thread nD τ).loc main_arg1))

/-- The update before grafting, at one place. -/
def pK : Fin 4 → Fin 3584 → Fin 1792 → EReal := Spec.backAt (wL m c) (middle m c) (wR m c)

/-- The diagonal update as an array. -/
def adaT : Spec.A3 4 3584 1792 := fun i => adaK m c (i 0) (i 1) (i 2)

/-- The update before grafting as an array. -/
def pT : Spec.A3 4 3584 1792 := fun i => pK m c (i 0) (i 1) (i 2)

/-- After call 0 the right basis is decoded. -/
theorem W1_v0 : V1 m ρ c main_v0 = vR m c := (W1_arr m ρ c 2).trans (region0 (V0 m ρ) c)

/-- It still is after call 1. -/
theorem W2_v0 : V2 m ρ c main_v0 = vR m c := (W2_of m ρ c main_v0 (by decide)).trans (W1_v0 m ρ c)

/-- After call 1 the left basis is decoded. -/
theorem W2_v1 : V2 m ρ c main_v1 = vL m c := by
  refine (W2_arr m ρ c 2).trans ((region1 (V1 m ρ) c).trans ?_)
  have h2 : V1 m ρ c main_arg2 = m ((c : Thread nD τ).loc main_arg2) := W1_args m ρ c main_arg2 (by decide)
  have h3 : V1 m ρ c main_arg3 = m ((c : Thread nD τ).loc main_arg3) := W1_args m ρ c main_arg3 (by decide)
  rw [h2, h3]
  rfl

/-- After call 2 the right Gram error is there. -/
theorem W3_v2 : V3 m ρ c main_v2 = Spec.gram (vR m c) := by
  refine (W3_arr m ρ c 2).trans ((region2 (V2 m ρ) c).trans ?_)
  rw [W2_v0]

/-- The decoded right basis is still there after call 2. -/
theorem W3_v0 : V3 m ρ c main_v0 = vR m c := (W3_of m ρ c main_v0 (by decide)).trans (W2_v0 m ρ c)
/-- The decoded left basis is still there after call 2. -/
theorem W3_v1 : V3 m ρ c main_v1 = vL m c := (W3_of m ρ c main_v1 (by decide)).trans (W2_v1 m ρ c)

/-- After call 3 the right basis is corrected. -/
theorem W4_v3 : V4 m ρ c main_v3 = wR m c := by
  refine (W4_arr m ρ c 3).trans ((region3 (V3 m ρ) c).trans ?_)
  rw [W3_v2, W3_v0]
  rfl

/-- The decoded left basis is still there after call 3. -/
theorem W4_v1 : V4 m ρ c main_v1 = vL m c := (W4_of m ρ c main_v1 (by decide)).trans (W3_v1 m ρ c)

/-- After call 4 the left Gram error is there. -/
theorem W5_v4 : V5 m ρ c main_v4 = Spec.gram (vL m c) := by
  refine (W5_arr m ρ c 2).trans ((region4 (V4 m ρ) c).trans ?_)
  rw [W4_v1]

/-- The decoded left basis is still there after call 4. -/
theorem W5_v1 : V5 m ρ c main_v1 = vL m c := (W5_of m ρ c main_v1 (by decide)).trans (W4_v1 m ρ c)
/-- The corrected right basis is still there after call 4. -/
theorem W5_v3 : V5 m ρ c main_v3 = wR m c := (W5_of m ρ c main_v3 (by decide)).trans (W4_v3 m ρ c)

/-- After call 5 the left basis is corrected. -/
theorem W6_v5 : V6 m ρ c main_v5 = wL m c := by
  refine (W6_arr m ρ c 3).trans ((region5 (V5 m ρ) c).trans ?_)
  rw [W5_v4, W5_v1]
  rfl

/-- The corrected right basis is still there after call 5. -/
theorem W6_v3 : V6 m ρ c main_v3 = wR m c := (W6_of m ρ c main_v3 (by decide)).trans (W5_v3 m ρ c)

/-- Call 6 finds the corrected left basis. -/
theorem W7_v5 : V7 m ρ c main_v5 = wL m c := (W7_of m ρ c main_v5 (by decide)).trans (W6_v5 m ρ c)
/-- Call 6 finds the corrected right basis. -/
theorem W7_v3 : V7 m ρ c main_v3 = wR m c := (W7_of m ρ c main_v3 (by decide)).trans (W6_v3 m ρ c)

/-- Call 6 finds the left eigenvalues as a column. -/
theorem W7_v6 : V7 m ρ c main_v6 = lamL m c := by
  have h : V6 m ρ c main_arg4 = m ((c : Thread nD τ).loc main_arg4) := W6_args m ρ c main_arg4 (by decide)
  funext i
  have e : V7 m ρ c main_v6 = (broadcastInDim S4x3584x1 ![0, 1] bcast_S4x3584_S4x3584x1_0_1 (V6 m ρ c main_arg4)) := by
    show StableHlo.after hostOps6 (W6 m ρ c) (Proc.devRef .tc main_v6) = _
    unfold hostOps6; after_results
  rw [e, h]
  unfold lamL
  idx_vars i
  pointwise []

/-- Call 6 finds the right eigenvalues as a column. -/
theorem W7_v7 : V7 m ρ c main_v7 = lamR m c := by
  have h : V6 m ρ c main_arg7 = m ((c : Thread nD τ).loc main_arg7) := W6_args m ρ c main_arg7 (by decide)
  funext i
  have e : V7 m ρ c main_v7 = (broadcastInDim S4x1792x1 ![0, 1] bcast_S4x1792_S4x1792x1_0_1 (V6 m ρ c main_arg7)) := by
    show StableHlo.after hostOps6 (W6 m ρ c) (Proc.devRef .tc main_v7) = _
    unfold hostOps6; after_results
  rw [e, h]
  unfold lamR
  idx_vars i
  pointwise []

/-- After call 6 the scaled gradient in the eigenbases is there. -/
theorem W8_v8_0 : V8 m ρ c main_v8_0 = middle m c := by
  refine (W8_arr m ρ c 7).trans ((region6_7 (V7 m ρ) c).trans ?_)
  have h0 : V7 m ρ c main_arg0 = m ((c : Thread nD τ).loc main_arg0) := W7_args m ρ c main_arg0 (by decide)
  rw [W7_v5, W7_v3, W7_v6, W7_v7, h0]
  rfl

/-- After call 6 the diagonal update is there. -/
theorem W8_v8_1 : V8 m ρ c main_v8_1 = adaT m c := by
  refine (W8_arr m ρ c 8).trans ((region6_8 (V7 m ρ) c).trans ?_)
  have h0 : V7 m ρ c main_arg0 = m ((c : Thread nD τ).loc main_arg0) := W7_args m ρ c main_arg0 (by decide)
  have h1 : V7 m ρ c main_arg1 = m ((c : Thread nD τ).loc main_arg1) := W7_args m ρ c main_arg1 (by decide)
  rw [h0, h1]
  rfl

/-- After call 6 the partial sums of the diagonal update's squares are there. -/
theorem W8_v8_2 : V8 m ρ c main_v8_2 = Spec.squares 14 32 (by decide) (adaK m c) := by
  refine (W8_arr m ρ c 9).trans ((region6_9 (V7 m ρ) c).trans ?_)
  have h0 : V7 m ρ c main_arg0 = m ((c : Thread nD τ).loc main_arg0) := W7_args m ρ c main_arg0 (by decide)
  have h1 : V7 m ρ c main_arg1 = m ((c : Thread nD τ).loc main_arg1) := W7_args m ρ c main_arg1 (by decide)
  rw [h0, h1]
  rfl

/-- Call 7 finds the corrected left basis. -/
theorem W8_v5 : V8 m ρ c main_v5 = wL m c := (W8_of m ρ c main_v5 (by decide)).trans (W7_v5 m ρ c)
/-- Call 7 finds the corrected right basis. -/
theorem W8_v3 : V8 m ρ c main_v3 = wR m c := (W8_of m ρ c main_v3 (by decide)).trans (W7_v3 m ρ c)

/-- After call 7 the update before grafting is there. -/
theorem W9_v9_0 : V9 m ρ c main_v9_0 = pT m c := by
  refine (W9_arr m ρ c 3).trans ((region7_3 (V8 m ρ) c).trans ?_)
  rw [W8_v5, W8_v8_0, W8_v3]
  rfl

/-- After call 7 the partial sums of that update's squares are there. -/
theorem W9_v9_1 : V9 m ρ c main_v9_1 = Spec.squares 7 64 (by decide) (pK m c) := by
  refine (W9_arr m ρ c 4).trans ((region7_4 (V8 m ρ) c).trans ?_)
  rw [W8_v5, W8_v8_0, W8_v3]
  rfl

/-- The diagonal update is still there after call 7. -/
theorem W9_v8_1 : V9 m ρ c main_v8_1 = adaT m c := (W9_of m ρ c main_v8_1 (by decide)).trans (W8_v8_1 m ρ c)
/-- The partial sums of its squares are still there after call 7. -/
theorem W9_v8_2 : V9 m ρ c main_v8_2 = Spec.squares 14 32 (by decide) (adaK m c) := (W9_of m ρ c main_v8_2 (by decide)).trans (W8_v8_2 m ρ c)
/-- Call 8 finds the update before grafting. -/
theorem W10_v9_0 : V10 m ρ c main_v9_0 = pT m c := (W10_of m ρ c main_v9_0 (by decide)).trans (W9_v9_0 m ρ c)
/-- The diagonal update is still there when call 8 begins. -/
theorem W10_v8_1 : V10 m ρ c main_v8_1 = adaT m c := (W10_of m ρ c main_v8_1 (by decide)).trans (W9_v8_1 m ρ c)

/-- Call 8 finds the diagonal update's partial sums, block and row in one axis. -/
theorem W10_v10 : V10 m ρ c main_v10 = shapeCast S4x112x1792 (Spec.squares 14 32 (by decide) (adaK m c)) shapeCasts_S4x14x8x1792_S4x112x1792 := by
  have e : V10 m ρ c main_v10 = shapeCast S4x112x1792 (V9 m ρ c main_v8_2) shapeCasts_S4x14x8x1792_S4x112x1792 := by
    show StableHlo.after hostOps8 (W9 m ρ c) (Proc.devRef .tc main_v10) = _
    unfold hostOps8; after_results; rfl
  rw [e, W9_v8_2]

/-- Call 8 finds the update's partial sums, block and row in one axis. -/
theorem W10_v11 : V10 m ρ c main_v11 = shapeCast S4x56x1792 (Spec.squares 7 64 (by decide) (pK m c)) shapeCasts_S4x7x8x1792_S4x56x1792 := by
  have e : V10 m ρ c main_v11 = shapeCast S4x56x1792 (V9 m ρ c main_v9_1) shapeCasts_S4x7x8x1792_S4x56x1792 := by
    show StableHlo.after hostOps8 (W9 m ρ c) (Proc.devRef .tc main_v11) = _
    unfold hostOps8; after_results; rfl
  rw [e, W9_v9_1]

/-- The kernel's second result, the diagonal update. -/
theorem W11_v8_1 : V11 m ρ c main_v8_1 = adaT m c := (W11_of m ρ c main_v8_1 (by decide)).trans (W10_v8_1 m ρ c)

/-- The kernel's first result, the grafted update, over the partial sums of squares. -/
theorem W11_v12 : V11 m ρ c main_v12 = Spec.graft (pT m c)
    (shapeCast S4x112x1792 (Spec.squares 14 32 (by decide) (adaK m c)) shapeCasts_S4x14x8x1792_S4x112x1792)
    (shapeCast S4x56x1792 (Spec.squares 7 64 (by decide) (pK m c)) shapeCasts_S4x7x8x1792_S4x56x1792) := by
  refine (W11_arr m ρ c 3).trans ((region8 (V10 m ρ) c).trans ?_)
  rw [W10_v9_0, W10_v10, W10_v11]

end Cert.KernelIdeal.Val
-- ==== Proof.Scalars.lean ====
/- Facts about single numbers and finite sums that join the two programs: the decoding of one half byte, the entries of the
   identity, the two inverse fourth roots, one correction step read on the transposed matrix, the update read on the
   transposed matrices, and the sum of squares over blocks of rows. Matrix products are sums of extended reals here, so the
   only laws used are the commutation of a product and the regrouping of a sum. -/
module

public import proofs.«01_k».proof.Proof.Spec

@[expose] public section

noncomputable section

namespace Cert.Spec

open Idealize.ShloMosaic Idealize.ShloMosaic.Tactic

/-- The low half of a byte, sign-extended by a comparison and a subtraction. -/
theorem low_int : ∀ x : BitVec 8,
    (Scalar.select (IntOp.cmpi .sge (IntOp.andi (BitVec.setWidth 32 x) 15#32) 8#32)
      (IntOp.subi (IntOp.andi (BitVec.setWidth 32 x) 15#32) 16#32) (IntOp.andi (BitVec.setWidth 32 x) 15#32)).toInt
    = (if 8 ≤ x.toNat / 16 ^ 0 % 16 then ((x.toNat / 16 ^ 0 % 16 : Nat) : Int) - 16 else ((x.toNat / 16 ^ 0 % 16 : Nat) : Int)) := by
  decide +kernel

/-- The high half of a byte, sign-extended by a comparison and a subtraction. -/
theorem high_int : ∀ x : BitVec 8,
    (Scalar.select (IntOp.cmpi .sge (IntOp.shrsi .host (BitVec.setWidth 32 x) 4#32) 8#32)
      (IntOp.subi (IntOp.shrsi .host (BitVec.setWidth 32 x) 4#32) 16#32) (IntOp.shrsi .host (BitVec.setWidth 32 x) 4#32)).toInt
    = (if 8 ≤ x.toNat / 16 ^ 1 % 16 then ((x.toNat / 16 ^ 1 % 16 : Nat) : Int) - 16 else ((x.toNat / 16 ^ 1 % 16 : Nat) : Int)) := by
  decide +kernel

/-- The low half of a code byte, as a number. -/
theorem low_nib (x : BitVec 8) :
    FloatOps.sitofp (F := Ideal) .f32 (Scalar.select (IntOp.cmpi .sge (IntOp.andi (BitVec.setWidth 32 x) 15#32) 8#32)
      (IntOp.subi (IntOp.andi (BitVec.setWidth 32 x) 15#32) 16#32) (IntOp.andi (BitVec.setWidth 32 x) 15#32)) = nib 0 x :=
  congrArg (fun z : Int => ((z : ℝ) : EReal)) (low_int x)

/-- The high half of a code byte, as a number. -/
theorem high_nib (x : BitVec 8) :
    FloatOps.sitofp (F := Ideal) .f32 (Scalar.select (IntOp.cmpi .sge (IntOp.shrsi .host (BitVec.setWidth 32 x) 4#32) 8#32)
      (IntOp.subi (IntOp.shrsi .host (BitVec.setWidth 32 x) 4#32) 16#32) (IntOp.shrsi .host (BitVec.setWidth 32 x) 4#32)) = nib 1 x :=
  congrArg (fun z : Int => ((z : ℝ) : EReal)) (high_int x)

/-- The half byte for place `j` of a row, chosen by whether `j` lies in the first half of the row. -/
theorem half_nib {n h : Nat} (hh : n = 2 * h) (j : Fin n) (x : BitVec 8) :
    FloatOps.sitofp (F := Ideal) .f32 (Scalar.select
      (IntOp.cmpi .sge (if j.val / h < 1 then IntOp.andi (BitVec.setWidth 32 x) 15#32 else IntOp.shrsi .host (BitVec.setWidth 32 x) 4#32) 8#32)
      (IntOp.subi (if j.val / h < 1 then IntOp.andi (BitVec.setWidth 32 x) 15#32 else IntOp.shrsi .host (BitVec.setWidth 32 x) 4#32) 16#32)
      (if j.val / h < 1 then IntOp.andi (BitVec.setWidth 32 x) 15#32 else IntOp.shrsi .host (BitVec.setWidth 32 x) 4#32))
    = nib (j.val / h) x := by
  have hj := j.isLt
  have hd : j.val / h < 2 := Nat.div_lt_of_lt_mul (by omega)
  by_cases h1 : j.val / h < 1
  · have e : j.val / h = 0 := Nat.lt_one_iff.mp h1
    rw [if_pos h1, e]
    exact low_nib x
  · have e : j.val / h = 1 := Nat.le_antisymm (Nat.lt_succ_iff.mp hd) (Nat.not_lt.mp h1)
    rw [if_neg h1, e]
    exact high_nib x

/-- An entry of the identity, as a comparison of row and column numbers. -/
theorem eye_bits {n : Nat} (hn : n < 2 ^ 32) (i j : Fin n) :
    FloatOps.uitofp (F := Ideal) .f32 (IntOp.cmpi .eq (IntOp.addi (BitVec.ofNat 32 i.val) 0#32) (BitVec.ofNat 32 j.val)) = eye i j := by
  have e1 : IntOp.addi (BitVec.ofNat 32 i.val) 0#32 = BitVec.ofNat 32 i.val := BitVec.add_zero _
  have h : BitVec.ofNat 32 i.val = BitVec.ofNat 32 j.val ↔ i.val = j.val := by
    have hi' := i.isLt
    have hj' := j.isLt
    rw [← BitVec.toNat_inj, BitVec.toNat_ofNat, BitVec.toNat_ofNat, Nat.mod_eq_of_lt (by omega), Nat.mod_eq_of_lt (by omega)]
  rw [e1]
  show (((IntOp.cmpi .eq (BitVec.ofNat 32 i.val) (BitVec.ofNat 32 j.val)).toNat : ℝ) : EReal) = eye i j
  by_cases hd : i.val = j.val
  · simp [IntOp.cmpi, eye, hd]
  · have hw : ¬ BitVec.ofNat 32 i.val = BitVec.ofNat 32 j.val := fun e => hd (h.mp e)
    simp [IntOp.cmpi, eye, hd, beq_eq_false_iff_ne.mpr hw]

/-- The identity is symmetric. -/
theorem eye_comm {n : Nat} (i j : Fin n) : eye i j = eye j i := by
  unfold eye
  exact if_congr eq_comm rfl rfl

/-- The exponent is minus one quarter. -/
theorem exponent : Ideal.ofBits .f32 0xBE800000#32 = ((-(1 / 4) : ℝ) : EReal) := by
  simp [Ideal.ofBits, Ideal.ieee]
  rw [← EReal.coe_mul]
  norm_num

/-- For a positive number the power with exponent minus one quarter is the reciprocal root of the root. -/
theorem pow_eq_root (x : EReal) (hx : 0 < x + Ideal.ofBits .f32 0x38D1B717#32) :
    Ideal.pow (x + Ideal.ofBits .f32 0x38D1B717#32) (Ideal.ofBits .f32 0xBE800000#32) = root x := by
  unfold root
  generalize x + Ideal.ofBits .f32 0x38D1B717#32 = y at hx ⊢
  rw [exponent]
  induction y with
  | bot => exact absurd hx (by simp)
  | top =>
    rw [Ideal.pow_top, Ideal.sqrt_top, Ideal.rsqrt_top, if_neg, if_neg]
    · intro h
      have := EReal.coe_eq_coe_iff.mp (h.trans EReal.coe_zero.symm)
      norm_num at this
    · intro h
      have := EReal.coe_lt_coe_iff.mp (EReal.coe_zero ▸ h)
      norm_num at this
  | coe r =>
    have hr : 0 < r := EReal.coe_pos.mp hx
    have hs : 0 < Real.sqrt r := Real.sqrt_pos.mpr hr
    rw [Ideal.pow_coe_coe, Ideal.sqrt_coe, if_neg (not_lt.mpr hr.le), Ideal.rsqrt_coe, if_neg (not_lt.mpr hs.le), if_neg hs.ne']
    refine congrArg _ ?_
    show r ^ (-(1 / 4) : ℝ) = _
    rw [Real.rpow_neg hr.le, Real.sqrt_eq_rpow, Real.sqrt_eq_rpow, ← Real.rpow_mul hr.le]
    norm_num

/-- One correction step on the matrix itself is the step on its transpose. -/
theorem step_apply {n : Nat} (v : A3 4 n n) (b : Fin 4) (i j : Fin n) :
    v (ix3 b j i) - Ideal.ofBits .f32 0x3F000000#32 *
      ∑ x : Fin n, v (ix3 b x i) * ((∑ y : Fin n, v (ix3 b x y) * v (ix3 b j y)) - eye x j)
    = correct (gram v) v (ix3 b j i) := by
  show _ = v (ix3 b j i) - Ideal.ofBits .f32 0x3F000000#32 *
    ∑ x : Fin n, ((∑ y : Fin n, v (ix3 b j y) * v (ix3 b x y)) - eye j x) * v (ix3 b x i)
  refine congrArg (fun s : EReal => v (ix3 b j i) - Ideal.ofBits .f32 0x3F000000#32 * s) (Finset.sum_congr rfl fun x _ => ?_)
  rw [mul_comm, eye_comm x j]
  refine congrArg (fun s : EReal => (s - eye j x) * v (ix3 b x i)) (Finset.sum_congr rfl fun y _ => mul_comm _ _)

/-- The update on the matrices themselves is the update on their transposes. -/
theorem update_apply {s d : Nat} (w : A3 4 s s) (g : A3 4 s d) (wr : A3 4 d d) (ll : A3 4 s 1) (lr : A3 4 d 1)
    (b : Fin 4) (i : Fin s) (c : Fin d) :
    ∑ e : Fin d, (∑ j : Fin s, w (ix3 b j i) *
        ((∑ k : Fin d, (∑ l : Fin s, w (ix3 b j l) * g (ix3 b l k)) * root (ll (ix3 b j 0)) * wr (ix3 b e k)) * root (lr (ix3 b e 0))))
      * wr (ix3 b e c)
    = backAt w (mid w g wr ll lr) wr b i c := by
  refine Finset.sum_congr rfl fun e _ => congrArg (fun z : EReal => z * wr (ix3 b e c)) (Finset.sum_congr rfl fun j _ => ?_)
  rw [mul_comm]
  refine congrArg (fun z : EReal => z * root (lr (ix3 b e 0)) * w (ix3 b j i)) (Finset.sum_congr rfl fun k _ => ?_)
  exact mul_comm _ _

/-- A sum over groups and places in a group is the sum over all rows, when the two numberings are inverse. -/
theorem sum_groups {R q s : Nat} (f : Fin s → EReal) (idx : Fin R → Fin q → Fin s) (row : Fin s → Fin R) (grp : Fin s → Fin q)
    (hl : ∀ i, idx (row i) (grp i) = i) (hr : ∀ r k, row (idx r k) = r) (hg : ∀ r k, grp (idx r k) = k) :
    ∑ r : Fin R, ∑ k : Fin q, f (idx r k) = ∑ i : Fin s, f i := by
  rw [← Finset.sum_product' (f := fun r k => f (idx r k))]
  exact Finset.sum_nbij' (fun p => idx p.1 p.2) (fun i => (row i, grp i)) (fun _ _ => Finset.mem_univ _)
    (fun _ _ => Finset.mem_product.mpr ⟨Finset.mem_univ _, Finset.mem_univ _⟩)
    (fun p _ => Prod.ext (hr p.1 p.2) (hg p.1 p.2)) (fun i _ => hl i) (fun _ _ => rfl)

end Cert.Spec
-- ==== Proof.RefRead.lean ====
/- The reference's named terms read at a place, in the vocabulary of `Spec`. -/
module

public import proofs.«01_k».proof.Proof.Scalars
public import proofs.«01_k».proof.Proof.Gen.ReferenceIdeal.Run

@[expose] public section

set_option maxRecDepth 16384

noncomputable section

namespace Cert.ReferenceIdeal.Val

open Idealize.ShloMosaic Idealize.ShloMosaic.TcCoe Idealize.ShloMosaic.Tactic
open Cert.ReferenceIdeal Cert.ReferenceIdeal.Gen Cert.ReferenceIdeal.Value

variable (V0 : Valuation τ sig (Elt Ideal))

/-- The left basis as decoded, transposed. -/
def vL : Spec.A3 4 3584 3584 :=
  Spec.decT (n := 3584) (h := 1792) (q := 56) rfl rfl (V0 (Proc.devRef .tc main_arg2)) (V0 (Proc.devRef .tc main_arg3))

/-- The right basis as decoded, transposed. -/
def vR : Spec.A3 4 1792 1792 :=
  Spec.decT (n := 1792) (h := 896) (q := 28) rfl rfl (V0 (Proc.devRef .tc main_arg5)) (V0 (Proc.devRef .tc main_arg6))

/-- The left basis after its correction step, transposed. -/
def wL : Spec.A3 4 3584 3584 := Spec.correct (Spec.gram (vL V0)) (vL V0)

/-- The right basis after its correction step, transposed. -/
def wR : Spec.A3 4 1792 1792 := Spec.correct (Spec.gram (vR V0)) (vR V0)

/-- The left eigenvalues as a column. -/
def lamL : Spec.A3 4 3584 1 := fun i => V0 (Proc.devRef .tc main_arg4) (ix2 (i 0) (i 1))

/-- The right eigenvalues as a column. -/
def lamR : Spec.A3 4 1792 1 := fun i => V0 (Proc.devRef .tc main_arg7) (ix2 (i 0) (i 1))

/-- The update before grafting. -/
def p : Fin 4 → Fin 3584 → Fin 1792 → EReal :=
  Spec.backAt (wL V0) (Spec.mid (wL V0) (V0 (Proc.devRef .tc main_arg0)) (wR V0) (lamL V0) (lamR V0)) (wR V0)

/-- The diagonal update. -/
def ada : Fin 4 → Fin 3584 → Fin 1792 → EReal :=
  Spec.adaAt (V0 (Proc.devRef .tc main_arg0)) (V0 (Proc.devRef .tc main_arg1))

/-- The reference's decoded left basis. -/
theorem v21_apply (b : Fin 4) (i j : Fin 3584) : res_main_v21 V0 (ix3 b i j) = vL V0 (ix3 b j i) := by
  show _ = Spec.decAt (n := 3584) (h := 1792) (q := 56) rfl rfl _ _ b i j
  unfold res_main_v21 res_main_v7 res_main_v0
  pointwise []
  exact congrArg (fun z : EReal => z * V0 (Proc.devRef .tc main_arg3) (ix3 b i ⟨j.val / 64, Spec.div_lt (n := 3584) (q := 56) rfl j⟩))
    (Spec.half_nib (n := 3584) (h := 1792) rfl j (V0 (Proc.devRef .tc main_arg2) (ix3 b i ⟨j.val % 1792, Spec.mod_lt (n := 3584) (h := 1792) rfl j⟩)))

/-- The reference's decoded right basis. -/
theorem v64_apply (b : Fin 4) (i j : Fin 1792) : res_main_v64 V0 (ix3 b i j) = vR V0 (ix3 b j i) := by
  show _ = Spec.decAt (n := 1792) (h := 896) (q := 28) rfl rfl _ _ b i j
  unfold res_main_v64 res_main_v50 res_main_v43
  pointwise []
  exact congrArg (fun z : EReal => z * V0 (Proc.devRef .tc main_arg6) (ix3 b i ⟨j.val / 64, Spec.div_lt (n := 1792) (q := 28) rfl j⟩))
    (Spec.half_nib (n := 1792) (h := 896) rfl j (V0 (Proc.devRef .tc main_arg5) (ix3 b i ⟨j.val % 896, Spec.mod_lt (n := 1792) (h := 896) rfl j⟩)))

/-- The reference's corrected left basis. -/
theorem v38_apply (b : Fin 4) (i j : Fin 3584) : res_main_v38 V0 (ix3 b i j) = wL V0 (ix3 b j i) := by
  refine Eq.trans ?_ (Spec.step_apply (vL V0) b i j)
  unfold res_main_v38
  pointwise []
  simp only [v21_apply, Spec.eye_bits (n := 3584) (by decide)]

/-- The reference's corrected right basis. -/
theorem v81_apply (b : Fin 4) (i j : Fin 1792) : res_main_v81 V0 (ix3 b i j) = wR V0 (ix3 b j i) := by
  refine Eq.trans ?_ (Spec.step_apply (vR V0) b i j)
  unfold res_main_v81
  pointwise []
  simp only [v64_apply, Spec.eye_bits (n := 1792) (by decide)]

/-- The reference's diagonal update. -/
theorem v103_apply (b : Fin 4) (i : Fin 3584) (j : Fin 1792) : res_main_v103 V0 (ix3 b i j) = ada V0 b i j := by
  unfold res_main_v103
  pointwise []
  rfl

/-- The reference's update before grafting, where the damped eigenvalues are positive. -/
theorem v98_apply
    (hl : ∀ (b : Fin 4) (i : Fin 3584), 0 < lamL V0 (ix3 b i 0) + Ideal.ofBits .f32 0x38D1B717#32)
    (hr : ∀ (b : Fin 4) (i : Fin 1792), 0 < lamR V0 (ix3 b i 0) + Ideal.ofBits .f32 0x38D1B717#32)
    (b : Fin 4) (i : Fin 3584) (j : Fin 1792) : res_main_v98 V0 (ix3 b i j) = p V0 b i j := by
  have dl : ∀ (b : Fin 4) (i : Fin 3584), Ideal.pow (HAdd.hAdd (α := EReal) (β := EReal) (γ := EReal) (V0 (Proc.devRef .tc main_arg4) (ix2 b i)) (Ideal.ofBits .f32 0x38D1B717#32))
      (Ideal.ofBits .f32 0xBE800000#32) = Spec.root (lamL V0 (ix3 b i 0)) := fun b i => Spec.pow_eq_root _ (hl b i)
  have dr : ∀ (b : Fin 4) (i : Fin 1792), Ideal.pow (HAdd.hAdd (α := EReal) (β := EReal) (γ := EReal) (V0 (Proc.devRef .tc main_arg7) (ix2 b i)) (Ideal.ofBits .f32 0x38D1B717#32))
      (Ideal.ofBits .f32 0xBE800000#32) = Spec.root (lamR V0 (ix3 b i 0)) := fun b i => Spec.pow_eq_root _ (hr b i)
  refine Eq.trans ?_ (Spec.update_apply (wL V0) (V0 (Proc.devRef .tc main_arg0)) (wR V0) (lamL V0) (lamR V0) b i j)
  unfold res_main_v98
  pointwise []
  simp only [v38_apply, v81_apply, dl, dr]

/-- The reference's first result at a place: the update times the quotient of the two norms. -/
theorem out_apply
    (hl : ∀ (b : Fin 4) (i : Fin 3584), 0 < lamL V0 (ix3 b i 0) + Ideal.ofBits .f32 0x38D1B717#32)
    (hr : ∀ (b : Fin 4) (i : Fin 1792), 0 < lamR V0 (ix3 b i 0) + Ideal.ofBits .f32 0x38D1B717#32)
    (b : Fin 4) (i : Fin 3584) (j : Fin 1792) :
    (mulf (res_main_v98 V0) (broadcastInDim S4x3584x1792 ![0, 1, 2] bcast_S4x1x1_S4x3584x1792_0_1_2 (broadcastInDim S4x1x1 ![0] bcast_S4_S4x1x1_0 (Host.divf (Host.sqrt (Host.reduceAdd (mulf (res_main_v103 V0) (res_main_v103 V0)) (constant S_ .f32 0x00000000#32) reducesTo_S4x3584x1792_S4_d1_2 h_S_)) (select (cmpf .ogt (res_main_v109 V0) (broadcastInDim S4 ![] bcast_S_S4 (constant S_ .f32 0x00000000#32))) (res_main_v109 V0) (broadcastInDim S4 ![] bcast_S_S4 (id (constant S_ .f32 0x3F800000#32))))))) : FVec Ideal S4x3584x1792 .f32) (ix3 b i j)
    = p V0 b i j * Spec.ratio (∑ r : Fin 3584, ∑ k : Fin 1792, ada V0 b r k * ada V0 b r k)
        (∑ r : Fin 3584, ∑ k : Fin 1792, p V0 b r k * p V0 b r k) := by
  unfold res_main_v109
  pointwise []
  simp only [v98_apply V0 hl hr, v103_apply]
  have e1 : id (constant (F := Ideal) S_ .f32 0x3F800000#32) ix0 = (1 : EReal) := Ideal.ofBits_one_f32
  rw [e1]
  rfl

end Cert.ReferenceIdeal.Val
-- ==== Proof.Agree.lean ====
/- The two programs' results agree, argument by argument equal and the damped eigenvalues positive. -/
module

public import proofs.«01_k».proof.Proof.Values
public import proofs.«01_k».proof.Proof.RefRead

@[expose] public section

set_option maxRecDepth 16384

noncomputable section

namespace Cert.Agree

open Idealize.ShloMosaic Idealize.ShloMosaic.TcCoe Idealize.ShloMosaic.Tactic
open Idealize.SL.Sem Idealize.ShloMosaic.StableHlo
open Cert.KernelIdeal Cert.KernelIdeal.Gen

/-- The partial sums of squares over 14 blocks of 256 rows add up to the sum of squares. -/
theorem squares_14 (x : Fin 4 → Fin 3584 → Fin 1792 → EReal) (b : Fin 4) :
    ∑ r : Fin 112, ∑ k : Fin 1792,
      (shapeCast S4x112x1792 (Spec.squares 14 32 (by decide) x) shapeCasts_S4x14x8x1792_S4x112x1792 : Spec.A3 4 112 1792) (ix3 b r k)
    = ∑ i : Fin 3584, ∑ k : Fin 1792, x b i k * x b i k := by
  have hx : ∀ (r : Fin 112) (k : Fin 1792),
      (shapeCast S4x112x1792 (Spec.squares 14 32 (by decide) x) shapeCasts_S4x14x8x1792_S4x112x1792 : Spec.A3 4 112 1792) (ix3 b r k)
      = ∑ q : Fin 32, x b ⟨r.val / 8 * 256 + (q.val * 8 + r.val % 8), by omega⟩ k * x b ⟨r.val / 8 * 256 + (q.val * 8 + r.val % 8), by omega⟩ k := by
    intro r k
    pointwise []
    rfl
  simp only [hx]
  refine Eq.trans (Finset.sum_congr rfl fun r _ => Finset.sum_comm) ?_
  exact Spec.sum_groups (fun i : Fin 3584 => ∑ k : Fin 1792, x b i k * x b i k)
    (fun (r : Fin 112) (q : Fin 32) => ⟨r.val / 8 * 256 + (q.val * 8 + r.val % 8), by omega⟩)
    (fun i => ⟨i.val / 256 * 8 + i.val % 8, by omega⟩) (fun i => ⟨i.val % 256 / 8, by omega⟩)
    (fun i => Fin.ext (by simp only; omega)) (fun r q => Fin.ext (by simp only; omega)) (fun r q => Fin.ext (by simp only; omega))

/-- The partial sums of squares over 7 blocks of 512 rows add up to the sum of squares. -/
theorem squares_7 (x : Fin 4 → Fin 3584 → Fin 1792 → EReal) (b : Fin 4) :
    ∑ r : Fin 56, ∑ k : Fin 1792,
      (shapeCast S4x56x1792 (Spec.squares 7 64 (by decide) x) shapeCasts_S4x7x8x1792_S4x56x1792 : Spec.A3 4 56 1792) (ix3 b r k)
    = ∑ i : Fin 3584, ∑ k : Fin 1792, x b i k * x b i k := by
  have hx : ∀ (r : Fin 56) (k : Fin 1792),
      (shapeCast S4x56x1792 (Spec.squares 7 64 (by decide) x) shapeCasts_S4x7x8x1792_S4x56x1792 : Spec.A3 4 56 1792) (ix3 b r k)
      = ∑ q : Fin 64, x b ⟨r.val / 8 * 512 + (q.val * 8 + r.val % 8), by omega⟩ k * x b ⟨r.val / 8 * 512 + (q.val * 8 + r.val % 8), by omega⟩ k := by
    intro r k
    pointwise []
    rfl
  simp only [hx]
  refine Eq.trans (Finset.sum_congr rfl fun r _ => Finset.sum_comm) ?_
  exact Spec.sum_groups (fun i : Fin 3584 => ∑ k : Fin 1792, x b i k * x b i k)
    (fun (r : Fin 56) (q : Fin 64) => ⟨r.val / 8 * 512 + (q.val * 8 + r.val % 8), by omega⟩)
    (fun i => ⟨i.val / 512 * 8 + i.val % 8, by omega⟩) (fun i => ⟨i.val % 512 / 8, by omega⟩)
    (fun i => Fin.ext (by simp only; omega)) (fun r q => Fin.ext (by simp only; omega)) (fun r q => Fin.ext (by simp only; omega))

/-- The kernel's first result at a place: the update times the quotient of the two norms. -/
theorem kernel_out (m : (ℓ : Loc nD τ sig) → Buf (Elt Ideal) ℓ) (ρ : Dev nD → PrngReg) (c : Dev nD)
    (b : Fin 4) (i : Fin 3584) (j : Fin 1792) : V11 m ρ c main_v12 (ix3 b i j)
    = Val.pK m c b i j * Spec.ratio (∑ r : Fin 3584, ∑ k : Fin 1792, Val.adaK m c b r k * Val.adaK m c b r k)
        (∑ r : Fin 3584, ∑ k : Fin 1792, Val.pK m c b r k * Val.pK m c b r k) := by
  refine (congrFun (Val.W11_v12 m ρ c) (ix3 b i j)).trans ?_
  refine congrArg₂ (fun x y : EReal => Val.pK m c b i j * Spec.ratio x y) (squares_14 (Val.adaK m c) b) (squares_7 (Val.pK m c) b)

variable (m : (ℓ : Loc nD τ sig) → Buf (Elt Ideal) ℓ) (c : Dev nD)
  (V0 : Valuation Cert.ReferenceIdeal.τ Cert.ReferenceIdeal.sig (Elt Ideal))

/-- The diagonal updates agree. -/
theorem ada_eq
    (h0 : V0 (Proc.devRef .tc Cert.ReferenceIdeal.main_arg0) = m ((c : Thread nD τ).loc main_arg0))
    (h1 : V0 (Proc.devRef .tc Cert.ReferenceIdeal.main_arg1) = m ((c : Thread nD τ).loc main_arg1)) :
    Cert.ReferenceIdeal.Val.ada V0 = Val.adaK m c :=
  congrArg₂ (fun (x y : Spec.A3 4 3584 1792) => Spec.adaAt x y) h0 h1

/-- The updates before grafting agree. -/
theorem p_eq
    (h0 : V0 (Proc.devRef .tc Cert.ReferenceIdeal.main_arg0) = m ((c : Thread nD τ).loc main_arg0))
    (h2 : V0 (Proc.devRef .tc Cert.ReferenceIdeal.main_arg2) = m ((c : Thread nD τ).loc main_arg2))
    (h3 : V0 (Proc.devRef .tc Cert.ReferenceIdeal.main_arg3) = m ((c : Thread nD τ).loc main_arg3))
    (h4 : V0 (Proc.devRef .tc Cert.ReferenceIdeal.main_arg4) = m ((c : Thread nD τ).loc main_arg4))
    (h5 : V0 (Proc.devRef .tc Cert.ReferenceIdeal.main_arg5) = m ((c : Thread nD τ).loc main_arg5))
    (h6 : V0 (Proc.devRef .tc Cert.ReferenceIdeal.main_arg6) = m ((c : Thread nD τ).loc main_arg6))
    (h7 : V0 (Proc.devRef .tc Cert.ReferenceIdeal.main_arg7) = m ((c : Thread nD τ).loc main_arg7)) :
    Cert.ReferenceIdeal.Val.p V0 = Val.pK m c := by
  have eL : Cert.ReferenceIdeal.Val.vL V0 = Val.vL m c :=
    congrArg₂ (fun (x : (⟨3, ![4, 3584, 1792]⟩ : Shape).Idx → BitVec 8) (y : Spec.A3 4 3584 56) =>
      Spec.decT (n := 3584) (h := 1792) (q := 56) rfl rfl x y) h2 h3
  have eR : Cert.ReferenceIdeal.Val.vR V0 = Val.vR m c :=
    congrArg₂ (fun (x : (⟨3, ![4, 1792, 896]⟩ : Shape).Idx → BitVec 8) (y : Spec.A3 4 1792 28) =>
      Spec.decT (n := 1792) (h := 896) (q := 28) rfl rfl x y) h5 h6
  have lL : Cert.ReferenceIdeal.Val.lamL V0 = Val.lamL m c :=
    congrArg (fun (x : (⟨2, ![4, 3584]⟩ : Shape).Idx → EReal) => fun i : (⟨3, ![4, 3584, 1]⟩ : Shape).Idx => x (ix2 (i 0) (i 1))) h4
  have lR : Cert.ReferenceIdeal.Val.lamR V0 = Val.lamR m c :=
    congrArg (fun (x : (⟨2, ![4, 1792]⟩ : Shape).Idx → EReal) => fun i : (⟨3, ![4, 1792, 1]⟩ : Shape).Idx => x (ix2 (i 0) (i 1))) h7
  have e0 : Spec.mid (Val.wL m c) (V0 (Proc.devRef .tc Cert.ReferenceIdeal.main_arg0)) (Val.wR m c) (Val.lamL m c) (Val.lamR m c)
      = Val.middle m c :=
    congrArg (fun x : Spec.A3 4 3584 1792 => Spec.mid (Val.wL m c) x (Val.wR m c) (Val.lamL m c) (Val.lamR m c)) h0
  have wL : Cert.ReferenceIdeal.Val.wL V0 = Val.wL m c := congrArg (fun v => Spec.correct (Spec.gram v) v) eL
  have wR : Cert.ReferenceIdeal.Val.wR V0 = Val.wR m c := congrArg (fun v => Spec.correct (Spec.gram v) v) eR
  unfold Cert.ReferenceIdeal.Val.p Val.pK
  rw [wL, wR, lL, lR, e0]

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference leaves its arguments as they were and every semaphore counter at zero. -/
theorem frame_r : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The side conditions of the precondition's operations. -/
theorem pre_facts : Cert.Pre_positive_damped.Facts := ⟨by decide, by decide⟩

open Idealize.ShloMosaic.Tactic in
/-- The precondition, read at a place: both arrays of eigenvalues, damped, are positive. -/
theorem pre_apply (m : (ℓ : Loc Cert.KernelIdeal.nD Cert.KernelIdeal.τ Cert.KernelIdeal.sig) → Buf (Elt Ideal) ℓ)
    (h : Cert.Pre_KernelIdeal_positive_damped (hPre_positive_damped := pre_facts) m) (c : Dev Cert.KernelIdeal.nD) :
    (∀ (b : Fin 4) (i : Fin 3584), 0 < Cert.KernelIdeal.Val.lamL m c (ix3 b i 0) + Ideal.ofBits .f32 0x38D1B717#32)
    ∧ (∀ (b : Fin 4) (i : Fin 1792), 0 < Cert.KernelIdeal.Val.lamR m c (ix3 b i 0) + Ideal.ofBits .f32 0x38D1B717#32) := by
  have one : ∀ (P : Prop) [Decidable P], BitVec.ofBool (decide P) = 1#1 → P := fun P _ e => by
    by_contra hn
    rw [decide_eq_false hn] at e
    exact absurd e (by decide)
  have z : Ideal.ofBits .f32 0x00000000#32 = 0 := by simp [Ideal.ofBits, Ideal.ieee]
  refine ⟨fun b i => ?_, fun b i => ?_⟩
  · have e := congrFun (h c).1 (ix2 b i)
    have e' := one _ e
    rw [← z]
    exact e'
  · have e := congrFun (h c).2 (ix2 b i)
    have e' := one _ e
    rw [← z]
    exact e'

/-- The kernel at exact arithmetic and the reference leave equal results. -/
theorem algebraic : Cert.algebraic_KernelIdeal_ReferenceIdeal_pre_positive_damped (hKernelIdeal := Cert.KernelIdeal.Gen.facts)
    (hReferenceIdeal := Cert.ReferenceIdeal.Gen.facts) (hPre_positive_damped := pre_facts) := by
  intro m g m' g' hp ha
  refine ⟨fun c => Cert.KernelIdeal.Gen.V11 m g c Cert.KernelIdeal.main_v12, fun c => Cert.KernelIdeal.Gen.V11 m g c Cert.KernelIdeal.main_v8_1,
    (θ_run Cert.KernelIdeal.defs _ _).mono (fun r h => h.1) (Cert.KernelIdeal.Val.run (F := Ideal) m g),
    (θ_run Cert.ReferenceIdeal.defs _ _).mono (fun r h c => ?_) (Cert.ReferenceIdeal.Value.run (F := Ideal) m' g')⟩
  obtain ⟨h0, h1, h2, h3, h4, h5, h6, h7⟩ := ha c
  obtain ⟨hl, hr⟩ := pre_apply m hp c
  have ea := Cert.Agree.ada_eq m c (Idealize.ShloMosaic.StableHlo.launchContents m' c) h0 h1
  have ep := Cert.Agree.p_eq m c (Idealize.ShloMosaic.StableHlo.launchContents m' c) h0 h2 h3 h4 h5 h6 h7
  have hl' : ∀ (b : Fin 4) (i : Fin 3584), 0 < Cert.ReferenceIdeal.Val.lamL (Idealize.ShloMosaic.StableHlo.launchContents m' c) (ix3 b i 0)
      + Ideal.ofBits .f32 0x38D1B717#32 := fun b i => by
    have e : Cert.ReferenceIdeal.Val.lamL (Idealize.ShloMosaic.StableHlo.launchContents m' c) (ix3 b i 0)
        = Cert.KernelIdeal.Val.lamL m c (ix3 b i 0) := congrFun h4 (ix2 b i)
    rw [e]; exact hl b i
  have hr' : ∀ (b : Fin 4) (i : Fin 1792), 0 < Cert.ReferenceIdeal.Val.lamR (Idealize.ShloMosaic.StableHlo.launchContents m' c) (ix3 b i 0)
      + Ideal.ofBits .f32 0x38D1B717#32 := fun b i => by
    have e : Cert.ReferenceIdeal.Val.lamR (Idealize.ShloMosaic.StableHlo.launchContents m' c) (ix3 b i 0)
        = Cert.KernelIdeal.Val.lamR m c (ix3 b i 0) := congrFun h7 (ix2 b i)
    rw [e]; exact hr b i
  refine ⟨(h c).1.trans ?_, (h c).2.1.trans ?_, (h c).2.2⟩
  · refine funext fun x => ?_
    obtain ⟨b, i, j, rfl⟩ : ∃ (b : Fin 4) (i : Fin 3584) (j : Fin 1792), x = ix3 b i j := ⟨x 0, x 1, x 2, by funext a; fin_cases a <;> rfl⟩
    refine (Cert.ReferenceIdeal.Val.out_apply _ hl' hr' b i j).trans ?_
    rw [ea, ep]
    exact (Cert.Agree.kernel_out m g c b i j).symm
  · refine funext fun x => ?_
    obtain ⟨b, i, j, rfl⟩ : ∃ (b : Fin 4) (i : Fin 3584) (j : Fin 1792), x = ix3 b i j := ⟨x 0, x 1, x 2, by funext a; fin_cases a <;> rfl⟩
    refine (Cert.ReferenceIdeal.Val.v103_apply _ b i j).trans ?_
    rw [ea]
    exact (congrFun (Cert.KernelIdeal.Val.W11_v8_1 m g c) (ix3 b i j)).symm

/-- Everything the certificate claims. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, algebraic⟩

end Cert.Proof

end
